-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S8x4x1024x128 : Shape := ⟨4, ![8, 4, 1024, 128]⟩
abbrev S8x4 : Shape := ⟨2, ![8, 4]⟩
abbrev S8x16 : Shape := ⟨2, ![8, 16]⟩
abbrev S_ : Shape := ⟨0, ![]⟩
abbrev S1024x128 : Shape := ⟨2, ![1024, 128]⟩
abbrev S1x1 : Shape := ⟨2, ![1, 1]⟩
abbrev S1x1x1024x128 : Shape := ⟨4, ![1, 1, 1024, 128]⟩
abbrev S1x1x512x128 : Shape := ⟨4, ![1, 1, 512, 128]⟩
abbrev S512x128 : Shape := ⟨2, ![512, 128]⟩
abbrev S1x1x256x128 : Shape := ⟨4, ![1, 1, 256, 128]⟩
abbrev S256x128 : Shape := ⟨2, ![256, 128]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S8x4x1024x128, .bf16⟩
  | _, _ => ⟨S2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 322 → Bool
  | ⟨i, _⟩ => dmaSemScopedAt i

abbrev sig : RefSig :=
  (ofTc nBuf bufTy 1 322 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v13 : BitVec 32 := Scalar.xori v2 c1_i32_6
  let c1_i32_8 : BitVec 32 := 1#32
  let v14 : BitVec 32 := Scalar.muli v13 c1_i32_8
  let v15 : BitVec 32 := Scalar.addi c0_i32 v14
  v15.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_9 : BitVec 32 := 3#32
  let v16 : BitVec 32 := Scalar.xori v2 c3_i32_9
  let c1_i32_11 : BitVec 32 := 1#32
  let v17 : BitVec 32 := Scalar.muli v16 c1_i32_11
  let v18 : BitVec 32 := Scalar.addi c0_i32_12 v17
  v18.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v19 : BitVec 32 := Scalar.xori v2 c4_i32
  let c1_i32_14 : BitVec 32 := 1#32
  let v20 : BitVec 32 := Scalar.muli v19 c1_i32_14
  let v21 : BitVec 32 := Scalar.addi c0_i32_15 v20
  v21.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v22 : BitVec 32 := Scalar.xori v2 c8_i32
  let c1_i32_17 : BitVec 32 := 1#32
  let v23 : BitVec 32 := Scalar.muli v22 c1_i32_17
  let v24 : BitVec 32 := Scalar.addi c0_i32_18 v23
  v24.toNat
def k0_off1 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let v25 : BitVec 32 := Scalar.subi c1_i32_19 v11
  let c1024_i32 : BitVec 32 := 1024#32
  let v26 : BitVec 32 := Scalar.muli v25 c1024_i32
  let v27 : Index := Scalar.indexCast v26
  let c896 : Index := 896#32
  ![v27.toNat, 896]
def k0_off2 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let v32 : BitVec 32 := Scalar.subi c1_i32_21 v9
  let c1024_i32_22 : BitVec 32 := 1024#32
  let v33 : BitVec 32 := Scalar.muli v32 c1024_i32_22
  let v34 : Index := Scalar.indexCast v33
  let c768 : Index := 768#32
  ![v34.toNat, 768]
def k0_off3 (d0 : Dev nD) : Fin 2 → Nat :=
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v39 : BitVec 32 := Scalar.subi c1_i32_24 v7
  let c1024_i32_25 : BitVec 32 := 1024#32
  let v40 : BitVec 32 := Scalar.muli v39 c1024_i32_25
  let v41 : Index := Scalar.indexCast v40
  let c384 : Index := 384#32
  ![v41.toNat, 384]
def k0_off4 (d0 : Dev nD) : Fin 2 → Nat :=
  let c1_i32_27 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v46 : BitVec 32 := Scalar.subi c1_i32_27 v7
  let c1024_i32_28 : BitVec 32 := 1024#32
  let v47 : BitVec 32 := Scalar.muli v46 c1024_i32_28
  let v48 : Index := Scalar.indexCast v47
  let c512 : Index := 512#32
  ![v48.toNat, 512]
def k0_off5 (d0 : Dev nD) : Fin 2 → Nat :=
  let c1_i32_30 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v53 : BitVec 32 := Scalar.subi c1_i32_30 v7
  let c1024_i32_31 : BitVec 32 := 1024#32
  let v54 : BitVec 32 := Scalar.muli v53 c1024_i32_31
  let v55 : Index := Scalar.indexCast v54
  let c640 : Index := 640#32
  ![v55.toNat, 640]
def k0_off6 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v60 : BitVec 32 := Scalar.subi c1_i32_33 v5
  let c1024_i32_34 : BitVec 32 := 1024#32
  let v61 : BitVec 32 := Scalar.muli v60 c1024_i32_34
  let v62 : Index := Scalar.indexCast v61
  let c0 : Index := 0#32
  ![v62.toNat, 0]
def k0_off7 (d0 : Dev nD) : Fin 2 → Nat :=
  let c1_i32_36 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v67 : BitVec 32 := Scalar.subi c1_i32_36 v5
  let c1024_i32_37 : BitVec 32 := 1024#32
  let v68 : BitVec 32 := Scalar.muli v67 c1024_i32_37
  let v69 : Index := Scalar.indexCast v68
  let c128 : Index := 128#32
  ![v69.toNat, 128]
def k0_off8 (d0 : Dev nD) : Fin 2 → Nat :=
  let c1_i32_39 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v74 : BitVec 32 := Scalar.subi c1_i32_39 v5
  let c1024_i32_40 : BitVec 32 := 1024#32
  let v75 : BitVec 32 := Scalar.muli v74 c1024_i32_40
  let v76 : Index := Scalar.indexCast v75
  let c256 : Index := 256#32
  ![v76.toNat, 256]
def k0_off9 (d0 : Dev nD) : Fin 2 → Nat :=
  let c1_i32_43 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let v81 : BitVec 32 := Scalar.subi c1_i32_43 v11
  let c1024_i32_44 : BitVec 32 := 1024#32
  let v82 : BitVec 32 := Scalar.muli v81 c1024_i32_44
  let c896_i32 : BitVec 32 := 896#32
  ![v82.toNat, 896]
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_45 : BitVec 32 := 8#32
  let v83 : BitVec 32 := Scalar.xori v2 c8_i32_45
  let c1_i32_51 : BitVec 32 := 1#32
  let v84 : BitVec 32 := Scalar.muli v83 c1_i32_51
  let v85 : BitVec 32 := Scalar.addi c0_i32_52 v84
  v85.toNat
def k0_off10 (d0 : Dev nD) : Fin 2 → Nat :=
  let c1_i32_55 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let v93 : BitVec 32 := Scalar.subi c1_i32_55 v9
  let c1024_i32_56 : BitVec 32 := 1024#32
  let v94 : BitVec 32 := Scalar.muli v93 c1024_i32_56
  let c768_i32 : BitVec 32 := 768#32
  ![v94.toNat, 768]
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_57 : BitVec 32 := 4#32
  let v95 : BitVec 32 := Scalar.xori v2 c4_i32_57
  let c1_i32_63 : BitVec 32 := 1#32
  let v96 : BitVec 32 := Scalar.muli v95 c1_i32_63
  let v97 : BitVec 32 := Scalar.addi c0_i32_64 v96
  v97.toNat
def k0_off11 (d0 : Dev nD) : Fin 2 → Nat :=
  let c1_i32_67 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v105 : BitVec 32 := Scalar.subi c1_i32_67 v7
  let c1024_i32_68 : BitVec 32 := 1024#32
  let v106 : BitVec 32 := Scalar.muli v105 c1024_i32_68
  let c384_i32 : BitVec 32 := 384#32
  ![v106.toNat, 384]
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_69 : BitVec 32 := 3#32
  let v107 : BitVec 32 := Scalar.xori v2 c3_i32_69
  let c1_i32_76 : BitVec 32 := 1#32
  let v108 : BitVec 32 := Scalar.muli v107 c1_i32_76
  let v109 : BitVec 32 := Scalar.addi c0_i32_77 v108
  v109.toNat
def k0_off12 (d0 : Dev nD) : Fin 2 → Nat :=
  let c1_i32_80 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v117 : BitVec 32 := Scalar.subi c1_i32_80 v7
  let c1024_i32_81 : BitVec 32 := 1024#32
  let v118 : BitVec 32 := Scalar.muli v117 c1024_i32_81
  let c512_i32 : BitVec 32 := 512#32
  ![v118.toNat, 512]
def k0_dev8 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_82 : BitVec 32 := 3#32
  let v119 : BitVec 32 := Scalar.xori v2 c3_i32_82
  let c1_i32_89 : BitVec 32 := 1#32
  let v120 : BitVec 32 := Scalar.muli v119 c1_i32_89
  let v121 : BitVec 32 := Scalar.addi c0_i32_90 v120
  v121.toNat
def k0_off13 (d0 : Dev nD) : Fin 2 → Nat :=
  let c1_i32_93 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v129 : BitVec 32 := Scalar.subi c1_i32_93 v7
  let c1024_i32_94 : BitVec 32 := 1024#32
  let v130 : BitVec 32 := Scalar.muli v129 c1024_i32_94
  let c640_i32 : BitVec 32 := 640#32
  ![v130.toNat, 640]
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_95 : BitVec 32 := 3#32
  let v131 : BitVec 32 := Scalar.xori v2 c3_i32_95
  let c1_i32_101 : BitVec 32 := 1#32
  let v132 : BitVec 32 := Scalar.muli v131 c1_i32_101
  let v133 : BitVec 32 := Scalar.addi c0_i32_102 v132
  v133.toNat
def k0_off14 (d0 : Dev nD) : Fin 2 → Nat :=
  let c1_i32_105 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v141 : BitVec 32 := Scalar.subi c1_i32_105 v5
  let c1024_i32_106 : BitVec 32 := 1024#32
  let v142 : BitVec 32 := Scalar.muli v141 c1024_i32_106
  let c0_i32_118 : BitVec 32 := 0#32
  ![v142.toNat, 0]
def k0_dev10 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_107 : BitVec 32 := 1#32
  let v143 : BitVec 32 := Scalar.xori v2 c1_i32_107
  let c1_i32_114 : BitVec 32 := 1#32
  let v144 : BitVec 32 := Scalar.muli v143 c1_i32_114
  let v145 : BitVec 32 := Scalar.addi c0_i32_115 v144
  v145.toNat
def k0_off15 (d0 : Dev nD) : Fin 2 → Nat :=
  let c1_i32_119 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v153 : BitVec 32 := Scalar.subi c1_i32_119 v5
  let c1024_i32_120 : BitVec 32 := 1024#32
  let v154 : BitVec 32 := Scalar.muli v153 c1024_i32_120
  let c128_i32 : BitVec 32 := 128#32
  ![v154.toNat, 128]
def k0_dev11 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v155 : BitVec 32 := Scalar.xori v2 c1_i32_121
  let c1_i32_128 : BitVec 32 := 1#32
  let v156 : BitVec 32 := Scalar.muli v155 c1_i32_128
  let v157 : BitVec 32 := Scalar.addi c0_i32_129 v156
  v157.toNat
def k0_off16 (d0 : Dev nD) : Fin 2 → Nat :=
  let c1_i32_132 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v165 : BitVec 32 := Scalar.subi c1_i32_132 v5
  let c1024_i32_133 : BitVec 32 := 1024#32
  let v166 : BitVec 32 := Scalar.muli v165 c1024_i32_133
  let c256_i32 : BitVec 32 := 256#32
  ![v166.toNat, 256]
def k0_dev12 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_134 : BitVec 32 := 1#32
  let v167 : BitVec 32 := Scalar.xori v2 c1_i32_134
  let c1_i32_141 : BitVec 32 := 1#32
  let v168 : BitVec 32 := Scalar.muli v167 c1_i32_141
  let v169 : BitVec 32 := Scalar.addi c0_i32_142 v168
  v169.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_145 : BitVec 32 := 1024#32
  let v177 : BitVec 32 := Scalar.muli v5 c1024_i32_145
  let v178 : Index := Scalar.indexCast v177
  let c0_146 : Index := 0#32
  ![v178.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_148 : BitVec 32 := 1024#32
  let v183 : BitVec 32 := Scalar.muli v5 c1024_i32_148
  let v184 : Index := Scalar.indexCast v183
  let c128_149 : Index := 128#32
  ![v184.toNat, 128]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_151 : BitVec 32 := 1024#32
  let v189 : BitVec 32 := Scalar.muli v5 c1024_i32_151
  let v190 : Index := Scalar.indexCast v189
  let c256_152 : Index := 256#32
  ![v190.toNat, 256]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_154 : BitVec 32 := 1024#32
  let v195 : BitVec 32 := Scalar.muli v7 c1024_i32_154
  let v196 : Index := Scalar.indexCast v195
  let c384_155 : Index := 384#32
  ![v196.toNat, 384]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_157 : BitVec 32 := 1024#32
  let v201 : BitVec 32 := Scalar.muli v7 c1024_i32_157
  let v202 : Index := Scalar.indexCast v201
  let c512_158 : Index := 512#32
  ![v202.toNat, 512]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_160 : BitVec 32 := 1024#32
  let v207 : BitVec 32 := Scalar.muli v7 c1024_i32_160
  let v208 : Index := Scalar.indexCast v207
  let c640_161 : Index := 640#32
  ![v208.toNat, 640]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let c1024_i32_163 : BitVec 32 := 1024#32
  let v213 : BitVec 32 := Scalar.muli v9 c1024_i32_163
  let v214 : Index := Scalar.indexCast v213
  let c768_164 : Index := 768#32
  ![v214.toNat, 768]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let c1024_i32_166 : BitVec 32 := 1024#32
  let v219 : BitVec 32 := Scalar.muli v11 c1024_i32_166
  let v220 : Index := Scalar.indexCast v219
  let c896_167 : Index := 896#32
  ![v220.toNat, 896]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_145 : BitVec 32 := 1024#32
  let v177 : BitVec 32 := Scalar.muli v5 c1024_i32_145
  let c1_i32_186 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v240 : BitVec 32 := Scalar.subi c1_i32_186 v7
  let c512_i32_187 : BitVec 32 := 512#32
  let v241 : BitVec 32 := Scalar.muli v240 c512_i32_187
  let v242 : BitVec 32 := Scalar.addi v177 v241
  let c0_i32_199 : BitVec 32 := 0#32
  ![v242.toNat, 0]
def k0_dev13 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_188 : BitVec 32 := 3#32
  let v243 : BitVec 32 := Scalar.xori v2 c3_i32_188
  let c1_i32_195 : BitVec 32 := 1#32
  let v244 : BitVec 32 := Scalar.muli v243 c1_i32_195
  let v245 : BitVec 32 := Scalar.addi c0_i32_196 v244
  v245.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_148 : BitVec 32 := 1024#32
  let v183 : BitVec 32 := Scalar.muli v5 c1024_i32_148
  let c1_i32_217 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v270 : BitVec 32 := Scalar.subi c1_i32_217 v7
  let c512_i32_218 : BitVec 32 := 512#32
  let v271 : BitVec 32 := Scalar.muli v270 c512_i32_218
  let v272 : BitVec 32 := Scalar.addi v183 v271
  let c128_i32_230 : BitVec 32 := 128#32
  ![v272.toNat, 128]
def k0_dev14 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_219 : BitVec 32 := 3#32
  let v273 : BitVec 32 := Scalar.xori v2 c3_i32_219
  let c1_i32_226 : BitVec 32 := 1#32
  let v274 : BitVec 32 := Scalar.muli v273 c1_i32_226
  let v275 : BitVec 32 := Scalar.addi c0_i32_227 v274
  v275.toNat
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_151 : BitVec 32 := 1024#32
  let v189 : BitVec 32 := Scalar.muli v5 c1024_i32_151
  let c1_i32_248 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v300 : BitVec 32 := Scalar.subi c1_i32_248 v9
  let c512_i32_249 : BitVec 32 := 512#32
  let v301 : BitVec 32 := Scalar.muli v300 c512_i32_249
  let v302 : BitVec 32 := Scalar.addi v189 v301
  let c256_i32_261 : BitVec 32 := 256#32
  ![v302.toNat, 256]
def k0_dev15 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_250 : BitVec 32 := 4#32
  let v303 : BitVec 32 := Scalar.xori v2 c4_i32_250
  let c1_i32_257 : BitVec 32 := 1#32
  let v304 : BitVec 32 := Scalar.muli v303 c1_i32_257
  let v305 : BitVec 32 := Scalar.addi c0_i32_258 v304
  v305.toNat
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_154 : BitVec 32 := 1024#32
  let v195 : BitVec 32 := Scalar.muli v7 c1024_i32_154
  let c1_i32_279 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v330 : BitVec 32 := Scalar.subi c1_i32_279 v5
  let c512_i32_280 : BitVec 32 := 512#32
  let v331 : BitVec 32 := Scalar.muli v330 c512_i32_280
  let v332 : BitVec 32 := Scalar.addi v195 v331
  let c384_i32_292 : BitVec 32 := 384#32
  ![v332.toNat, 384]
def k0_dev16 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let v333 : BitVec 32 := Scalar.xori v2 c1_i32_281
  let c1_i32_288 : BitVec 32 := 1#32
  let v334 : BitVec 32 := Scalar.muli v333 c1_i32_288
  let v335 : BitVec 32 := Scalar.addi c0_i32_289 v334
  v335.toNat
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_157 : BitVec 32 := 1024#32
  let v201 : BitVec 32 := Scalar.muli v7 c1024_i32_157
  let c1_i32_310 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v360 : BitVec 32 := Scalar.subi c1_i32_310 v5
  let c512_i32_311 : BitVec 32 := 512#32
  let v361 : BitVec 32 := Scalar.muli v360 c512_i32_311
  let v362 : BitVec 32 := Scalar.addi v201 v361
  let c512_i32_323 : BitVec 32 := 512#32
  ![v362.toNat, 512]
def k0_dev17 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_312 : BitVec 32 := 1#32
  let v363 : BitVec 32 := Scalar.xori v2 c1_i32_312
  let c1_i32_319 : BitVec 32 := 1#32
  let v364 : BitVec 32 := Scalar.muli v363 c1_i32_319
  let v365 : BitVec 32 := Scalar.addi c0_i32_320 v364
  v365.toNat
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_160 : BitVec 32 := 1024#32
  let v207 : BitVec 32 := Scalar.muli v7 c1024_i32_160
  let c1_i32_341 : BitVec 32 := 1#32
  let c3_i32 : BitVec 32 := 3#32
  let v10 : BitVec 32 := Scalar.shrsi v2 c3_i32
  let c1_i32_5 : BitVec 32 := 1#32
  let v11 : BitVec 32 := Scalar.andi v10 c1_i32_5
  let v390 : BitVec 32 := Scalar.subi c1_i32_341 v11
  let c512_i32_342 : BitVec 32 := 512#32
  let v391 : BitVec 32 := Scalar.muli v390 c512_i32_342
  let v392 : BitVec 32 := Scalar.addi v207 v391
  let c640_i32_354 : BitVec 32 := 640#32
  ![v392.toNat, 640]
def k0_dev18 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_343 : BitVec 32 := 8#32
  let v393 : BitVec 32 := Scalar.xori v2 c8_i32_343
  let c1_i32_350 : BitVec 32 := 1#32
  let v394 : BitVec 32 := Scalar.muli v393 c1_i32_350
  let v395 : BitVec 32 := Scalar.addi c0_i32_351 v394
  v395.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let c1024_i32_163 : BitVec 32 := 1024#32
  let v213 : BitVec 32 := Scalar.muli v9 c1024_i32_163
  let c1_i32_372 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v420 : BitVec 32 := Scalar.subi c1_i32_372 v5
  let c512_i32_373 : BitVec 32 := 512#32
  let v421 : BitVec 32 := Scalar.muli v420 c512_i32_373
  let v422 : BitVec 32 := Scalar.addi v213 v421
  let c768_i32_385 : BitVec 32 := 768#32
  ![v422.toNat, 768]
def k0_dev19 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_374 : BitVec 32 := 1#32
  let v423 : BitVec 32 := Scalar.xori v2 c1_i32_374
  let c1_i32_381 : BitVec 32 := 1#32
  let v424 : BitVec 32 := Scalar.muli v423 c1_i32_381
  let v425 : BitVec 32 := Scalar.addi c0_i32_382 v424
  v425.toNat
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let c1024_i32_166 : BitVec 32 := 1024#32
  let v219 : BitVec 32 := Scalar.muli v11 c1024_i32_166
  let c1_i32_403 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v450 : BitVec 32 := Scalar.subi c1_i32_403 v7
  let c512_i32_404 : BitVec 32 := 512#32
  let v451 : BitVec 32 := Scalar.muli v450 c512_i32_404
  let v452 : BitVec 32 := Scalar.addi v219 v451
  let c896_i32_416 : BitVec 32 := 896#32
  ![v452.toNat, 896]
def k0_dev20 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_405 : BitVec 32 := 3#32
  let v453 : BitVec 32 := Scalar.xori v2 c3_i32_405
  let c1_i32_412 : BitVec 32 := 1#32
  let v454 : BitVec 32 := Scalar.muli v453 c1_i32_412
  let v455 : BitVec 32 := Scalar.addi c0_i32_413 v454
  v455.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_154 : BitVec 32 := 1024#32
  let v195 : BitVec 32 := Scalar.muli v7 c1024_i32_154
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_293 : BitVec 32 := 512#32
  let v343 : BitVec 32 := Scalar.muli v5 c512_i32_293
  let v344 : BitVec 32 := Scalar.addi v195 v343
  let v472 : Index := Scalar.indexCast v344
  let c384_429 : Index := 384#32
  ![v472.toNat, 384]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_154 : BitVec 32 := 1024#32
  let v195 : BitVec 32 := Scalar.muli v7 c1024_i32_154
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_293 : BitVec 32 := 512#32
  let v343 : BitVec 32 := Scalar.muli v5 c512_i32_293
  let v344 : BitVec 32 := Scalar.addi v195 v343
  let c1_i32_435 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v480 : BitVec 32 := Scalar.subi c1_i32_435 v9
  let c256_i32_436 : BitVec 32 := 256#32
  let v481 : BitVec 32 := Scalar.muli v480 c256_i32_436
  let v482 : BitVec 32 := Scalar.addi v344 v481
  let c384_i32_448 : BitVec 32 := 384#32
  ![v482.toNat, 384]
def k0_dev21 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_437 : BitVec 32 := 4#32
  let v483 : BitVec 32 := Scalar.xori v2 c4_i32_437
  let c1_i32_444 : BitVec 32 := 1#32
  let v484 : BitVec 32 := Scalar.muli v483 c1_i32_444
  let v485 : BitVec 32 := Scalar.addi c0_i32_445 v484
  v485.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_157 : BitVec 32 := 1024#32
  let v201 : BitVec 32 := Scalar.muli v7 c1024_i32_157
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_324 : BitVec 32 := 512#32
  let v373 : BitVec 32 := Scalar.muli v5 c512_i32_324
  let v374 : BitVec 32 := Scalar.addi v201 v373
  let v502 : Index := Scalar.indexCast v374
  let c512_461 : Index := 512#32
  ![v502.toNat, 512]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_157 : BitVec 32 := 1024#32
  let v201 : BitVec 32 := Scalar.muli v7 c1024_i32_157
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_324 : BitVec 32 := 512#32
  let v373 : BitVec 32 := Scalar.muli v5 c512_i32_324
  let v374 : BitVec 32 := Scalar.addi v201 v373
  let c1_i32_467 : BitVec 32 := 1#32
  let c3_i32 : BitVec 32 := 3#32
  let v10 : BitVec 32 := Scalar.shrsi v2 c3_i32
  let c1_i32_5 : BitVec 32 := 1#32
  let v11 : BitVec 32 := Scalar.andi v10 c1_i32_5
  let v510 : BitVec 32 := Scalar.subi c1_i32_467 v11
  let c256_i32_468 : BitVec 32 := 256#32
  let v511 : BitVec 32 := Scalar.muli v510 c256_i32_468
  let v512 : BitVec 32 := Scalar.addi v374 v511
  let c512_i32_480 : BitVec 32 := 512#32
  ![v512.toNat, 512]
def k0_dev22 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_469 : BitVec 32 := 8#32
  let v513 : BitVec 32 := Scalar.xori v2 c8_i32_469
  let c1_i32_476 : BitVec 32 := 1#32
  let v514 : BitVec 32 := Scalar.muli v513 c1_i32_476
  let v515 : BitVec 32 := Scalar.addi c0_i32_477 v514
  v515.toNat
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let c1024_i32_163 : BitVec 32 := 1024#32
  let v213 : BitVec 32 := Scalar.muli v9 c1024_i32_163
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_386 : BitVec 32 := 512#32
  let v433 : BitVec 32 := Scalar.muli v5 c512_i32_386
  let v434 : BitVec 32 := Scalar.addi v213 v433
  let v532 : Index := Scalar.indexCast v434
  let c768_493 : Index := 768#32
  ![v532.toNat, 768]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let c1024_i32_163 : BitVec 32 := 1024#32
  let v213 : BitVec 32 := Scalar.muli v9 c1024_i32_163
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_386 : BitVec 32 := 512#32
  let v433 : BitVec 32 := Scalar.muli v5 c512_i32_386
  let v434 : BitVec 32 := Scalar.addi v213 v433
  let c1_i32_499 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v540 : BitVec 32 := Scalar.subi c1_i32_499 v7
  let c256_i32_500 : BitVec 32 := 256#32
  let v541 : BitVec 32 := Scalar.muli v540 c256_i32_500
  let v542 : BitVec 32 := Scalar.addi v434 v541
  let c768_i32_512 : BitVec 32 := 768#32
  ![v542.toNat, 768]
def k0_dev23 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_501 : BitVec 32 := 3#32
  let v543 : BitVec 32 := Scalar.xori v2 c3_i32_501
  let c1_i32_508 : BitVec 32 := 1#32
  let v544 : BitVec 32 := Scalar.muli v543 c1_i32_508
  let v545 : BitVec 32 := Scalar.addi c0_i32_509 v544
  v545.toNat
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_145 : BitVec 32 := 1024#32
  let v177 : BitVec 32 := Scalar.muli v5 c1024_i32_145
  let c1_i32_2 : BitVec 32 := 1#32
  let v6 : BitVec 32 := Scalar.shrsi v2 c1_i32_2
  let c1_i32_3 : BitVec 32 := 1#32
  let v7 : BitVec 32 := Scalar.andi v6 c1_i32_3
  let c512_i32_200 : BitVec 32 := 512#32
  let v253 : BitVec 32 := Scalar.muli v7 c512_i32_200
  let v254 : BitVec 32 := Scalar.addi v177 v253
  let v562 : Index := Scalar.indexCast v254
  let c0_525 : Index := 0#32
  ![v562.toNat, 0]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_145 : BitVec 32 := 1024#32
  let v177 : BitVec 32 := Scalar.muli v5 c1024_i32_145
  let c1_i32_2 : BitVec 32 := 1#32
  let v6 : BitVec 32 := Scalar.shrsi v2 c1_i32_2
  let c1_i32_3 : BitVec 32 := 1#32
  let v7 : BitVec 32 := Scalar.andi v6 c1_i32_3
  let c512_i32_200 : BitVec 32 := 512#32
  let v253 : BitVec 32 := Scalar.muli v7 c512_i32_200
  let v254 : BitVec 32 := Scalar.addi v177 v253
  let c1_i32_531 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v570 : BitVec 32 := Scalar.subi c1_i32_531 v9
  let c256_i32_532 : BitVec 32 := 256#32
  let v571 : BitVec 32 := Scalar.muli v570 c256_i32_532
  let v572 : BitVec 32 := Scalar.addi v254 v571
  let c0_i32_544 : BitVec 32 := 0#32
  ![v572.toNat, 0]
def k0_dev24 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_533 : BitVec 32 := 4#32
  let v573 : BitVec 32 := Scalar.xori v2 c4_i32_533
  let c1_i32_540 : BitVec 32 := 1#32
  let v574 : BitVec 32 := Scalar.muli v573 c1_i32_540
  let v575 : BitVec 32 := Scalar.addi c0_i32_541 v574
  v575.toNat
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_148 : BitVec 32 := 1024#32
  let v183 : BitVec 32 := Scalar.muli v5 c1024_i32_148
  let c1_i32_2 : BitVec 32 := 1#32
  let v6 : BitVec 32 := Scalar.shrsi v2 c1_i32_2
  let c1_i32_3 : BitVec 32 := 1#32
  let v7 : BitVec 32 := Scalar.andi v6 c1_i32_3
  let c512_i32_231 : BitVec 32 := 512#32
  let v283 : BitVec 32 := Scalar.muli v7 c512_i32_231
  let v284 : BitVec 32 := Scalar.addi v183 v283
  let v592 : Index := Scalar.indexCast v284
  let c128_557 : Index := 128#32
  ![v592.toNat, 128]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_148 : BitVec 32 := 1024#32
  let v183 : BitVec 32 := Scalar.muli v5 c1024_i32_148
  let c1_i32_2 : BitVec 32 := 1#32
  let v6 : BitVec 32 := Scalar.shrsi v2 c1_i32_2
  let c1_i32_3 : BitVec 32 := 1#32
  let v7 : BitVec 32 := Scalar.andi v6 c1_i32_3
  let c512_i32_231 : BitVec 32 := 512#32
  let v283 : BitVec 32 := Scalar.muli v7 c512_i32_231
  let v284 : BitVec 32 := Scalar.addi v183 v283
  let c1_i32_563 : BitVec 32 := 1#32
  let c3_i32 : BitVec 32 := 3#32
  let v10 : BitVec 32 := Scalar.shrsi v2 c3_i32
  let c1_i32_5 : BitVec 32 := 1#32
  let v11 : BitVec 32 := Scalar.andi v10 c1_i32_5
  let v600 : BitVec 32 := Scalar.subi c1_i32_563 v11
  let c256_i32_564 : BitVec 32 := 256#32
  let v601 : BitVec 32 := Scalar.muli v600 c256_i32_564
  let v602 : BitVec 32 := Scalar.addi v284 v601
  let c128_i32_576 : BitVec 32 := 128#32
  ![v602.toNat, 128]
def k0_dev25 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_565 : BitVec 32 := 8#32
  let v603 : BitVec 32 := Scalar.xori v2 c8_i32_565
  let c1_i32_572 : BitVec 32 := 1#32
  let v604 : BitVec 32 := Scalar.muli v603 c1_i32_572
  let v605 : BitVec 32 := Scalar.addi c0_i32_573 v604
  v605.toNat
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let c1024_i32_166 : BitVec 32 := 1024#32
  let v219 : BitVec 32 := Scalar.muli v11 c1024_i32_166
  let c1_i32_2 : BitVec 32 := 1#32
  let v6 : BitVec 32 := Scalar.shrsi v2 c1_i32_2
  let c1_i32_3 : BitVec 32 := 1#32
  let v7 : BitVec 32 := Scalar.andi v6 c1_i32_3
  let c512_i32_417 : BitVec 32 := 512#32
  let v463 : BitVec 32 := Scalar.muli v7 c512_i32_417
  let v464 : BitVec 32 := Scalar.addi v219 v463
  let v622 : Index := Scalar.indexCast v464
  let c896_589 : Index := 896#32
  ![v622.toNat, 896]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let c1024_i32_166 : BitVec 32 := 1024#32
  let v219 : BitVec 32 := Scalar.muli v11 c1024_i32_166
  let c1_i32_2 : BitVec 32 := 1#32
  let v6 : BitVec 32 := Scalar.shrsi v2 c1_i32_2
  let c1_i32_3 : BitVec 32 := 1#32
  let v7 : BitVec 32 := Scalar.andi v6 c1_i32_3
  let c512_i32_417 : BitVec 32 := 512#32
  let v463 : BitVec 32 := Scalar.muli v7 c512_i32_417
  let v464 : BitVec 32 := Scalar.addi v219 v463
  let c1_i32_595 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v630 : BitVec 32 := Scalar.subi c1_i32_595 v5
  let c256_i32_596 : BitVec 32 := 256#32
  let v631 : BitVec 32 := Scalar.muli v630 c256_i32_596
  let v632 : BitVec 32 := Scalar.addi v464 v631
  let c896_i32_608 : BitVec 32 := 896#32
  ![v632.toNat, 896]
def k0_dev26 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_597 : BitVec 32 := 1#32
  let v633 : BitVec 32 := Scalar.xori v2 c1_i32_597
  let c1_i32_604 : BitVec 32 := 1#32
  let v634 : BitVec 32 := Scalar.muli v633 c1_i32_604
  let v635 : BitVec 32 := Scalar.addi c0_i32_605 v634
  v635.toNat
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_151 : BitVec 32 := 1024#32
  let v189 : BitVec 32 := Scalar.muli v5 c1024_i32_151
  let c2_i32 : BitVec 32 := 2#32
  let v8 : BitVec 32 := Scalar.shrsi v2 c2_i32
  let c1_i32_4 : BitVec 32 := 1#32
  let v9 : BitVec 32 := Scalar.andi v8 c1_i32_4
  let c512_i32_262 : BitVec 32 := 512#32
  let v313 : BitVec 32 := Scalar.muli v9 c512_i32_262
  let v314 : BitVec 32 := Scalar.addi v189 v313
  let v652 : Index := Scalar.indexCast v314
  let c256_621 : Index := 256#32
  ![v652.toNat, 256]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_151 : BitVec 32 := 1024#32
  let v189 : BitVec 32 := Scalar.muli v5 c1024_i32_151
  let c2_i32 : BitVec 32 := 2#32
  let v8 : BitVec 32 := Scalar.shrsi v2 c2_i32
  let c1_i32_4 : BitVec 32 := 1#32
  let v9 : BitVec 32 := Scalar.andi v8 c1_i32_4
  let c512_i32_262 : BitVec 32 := 512#32
  let v313 : BitVec 32 := Scalar.muli v9 c512_i32_262
  let v314 : BitVec 32 := Scalar.addi v189 v313
  let c1_i32_627 : BitVec 32 := 1#32
  let c3_i32 : BitVec 32 := 3#32
  let v10 : BitVec 32 := Scalar.shrsi v2 c3_i32
  let c1_i32_5 : BitVec 32 := 1#32
  let v11 : BitVec 32 := Scalar.andi v10 c1_i32_5
  let v660 : BitVec 32 := Scalar.subi c1_i32_627 v11
  let c256_i32_628 : BitVec 32 := 256#32
  let v661 : BitVec 32 := Scalar.muli v660 c256_i32_628
  let v662 : BitVec 32 := Scalar.addi v314 v661
  let c256_i32_640 : BitVec 32 := 256#32
  ![v662.toNat, 256]
def k0_dev27 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_629 : BitVec 32 := 8#32
  let v663 : BitVec 32 := Scalar.xori v2 c8_i32_629
  let c1_i32_636 : BitVec 32 := 1#32
  let v664 : BitVec 32 := Scalar.muli v663 c1_i32_636
  let v665 : BitVec 32 := Scalar.addi c0_i32_637 v664
  v665.toNat
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_160 : BitVec 32 := 1024#32
  let v207 : BitVec 32 := Scalar.muli v7 c1024_i32_160
  let c3_i32 : BitVec 32 := 3#32
  let v10 : BitVec 32 := Scalar.shrsi v2 c3_i32
  let c1_i32_5 : BitVec 32 := 1#32
  let v11 : BitVec 32 := Scalar.andi v10 c1_i32_5
  let c512_i32_355 : BitVec 32 := 512#32
  let v403 : BitVec 32 := Scalar.muli v11 c512_i32_355
  let v404 : BitVec 32 := Scalar.addi v207 v403
  let v682 : Index := Scalar.indexCast v404
  let c640_653 : Index := 640#32
  ![v682.toNat, 640]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_160 : BitVec 32 := 1024#32
  let v207 : BitVec 32 := Scalar.muli v7 c1024_i32_160
  let c3_i32 : BitVec 32 := 3#32
  let v10 : BitVec 32 := Scalar.shrsi v2 c3_i32
  let c1_i32_5 : BitVec 32 := 1#32
  let v11 : BitVec 32 := Scalar.andi v10 c1_i32_5
  let c512_i32_355 : BitVec 32 := 512#32
  let v403 : BitVec 32 := Scalar.muli v11 c512_i32_355
  let v404 : BitVec 32 := Scalar.addi v207 v403
  let c1_i32_659 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v690 : BitVec 32 := Scalar.subi c1_i32_659 v9
  let c256_i32_660 : BitVec 32 := 256#32
  let v691 : BitVec 32 := Scalar.muli v690 c256_i32_660
  let v692 : BitVec 32 := Scalar.addi v404 v691
  let c640_i32_672 : BitVec 32 := 640#32
  ![v692.toNat, 640]
def k0_dev28 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_661 : BitVec 32 := 4#32
  let v693 : BitVec 32 := Scalar.xori v2 c4_i32_661
  let c1_i32_668 : BitVec 32 := 1#32
  let v694 : BitVec 32 := Scalar.muli v693 c1_i32_668
  let v695 : BitVec 32 := Scalar.addi c0_i32_669 v694
  v695.toNat
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let c1024_i32_166 : BitVec 32 := 1024#32
  let v219 : BitVec 32 := Scalar.muli v11 c1024_i32_166
  let c1_i32_2 : BitVec 32 := 1#32
  let v6 : BitVec 32 := Scalar.shrsi v2 c1_i32_2
  let c1_i32_3 : BitVec 32 := 1#32
  let v7 : BitVec 32 := Scalar.andi v6 c1_i32_3
  let c512_i32_417 : BitVec 32 := 512#32
  let v463 : BitVec 32 := Scalar.muli v7 c512_i32_417
  let v464 : BitVec 32 := Scalar.addi v219 v463
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_609 : BitVec 32 := 256#32
  let v643 : BitVec 32 := Scalar.muli v5 c256_i32_609
  let v644 : BitVec 32 := Scalar.addi v464 v643
  let v712 : Index := Scalar.indexCast v644
  let c896_685 : Index := 896#32
  ![v712.toNat, 896]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let c1024_i32_166 : BitVec 32 := 1024#32
  let v219 : BitVec 32 := Scalar.muli v11 c1024_i32_166
  let c1_i32_2 : BitVec 32 := 1#32
  let v6 : BitVec 32 := Scalar.shrsi v2 c1_i32_2
  let c1_i32_3 : BitVec 32 := 1#32
  let v7 : BitVec 32 := Scalar.andi v6 c1_i32_3
  let c512_i32_417 : BitVec 32 := 512#32
  let v463 : BitVec 32 := Scalar.muli v7 c512_i32_417
  let v464 : BitVec 32 := Scalar.addi v219 v463
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_609 : BitVec 32 := 256#32
  let v643 : BitVec 32 := Scalar.muli v5 c256_i32_609
  let v644 : BitVec 32 := Scalar.addi v464 v643
  let c896_i32_702 : BitVec 32 := 896#32
  ![v644.toNat, 896]
def k0_dev29 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_691 : BitVec 32 := 4#32
  let v720 : BitVec 32 := Scalar.xori v2 c4_i32_691
  let c1_i32_698 : BitVec 32 := 1#32
  let v721 : BitVec 32 := Scalar.muli v720 c1_i32_698
  let v722 : BitVec 32 := Scalar.addi c0_i32_699 v721
  v722.toNat
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let c1024_i32_163 : BitVec 32 := 1024#32
  let v213 : BitVec 32 := Scalar.muli v9 c1024_i32_163
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_386 : BitVec 32 := 512#32
  let v433 : BitVec 32 := Scalar.muli v5 c512_i32_386
  let v434 : BitVec 32 := Scalar.addi v213 v433
  let c1_i32_2 : BitVec 32 := 1#32
  let v6 : BitVec 32 := Scalar.shrsi v2 c1_i32_2
  let c1_i32_3 : BitVec 32 := 1#32
  let v7 : BitVec 32 := Scalar.andi v6 c1_i32_3
  let c256_i32_513 : BitVec 32 := 256#32
  let v553 : BitVec 32 := Scalar.muli v7 c256_i32_513
  let v554 : BitVec 32 := Scalar.addi v434 v553
  let v737 : Index := Scalar.indexCast v554
  let c768_714 : Index := 768#32
  ![v737.toNat, 768]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let c1024_i32_163 : BitVec 32 := 1024#32
  let v213 : BitVec 32 := Scalar.muli v9 c1024_i32_163
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_386 : BitVec 32 := 512#32
  let v433 : BitVec 32 := Scalar.muli v5 c512_i32_386
  let v434 : BitVec 32 := Scalar.addi v213 v433
  let c1_i32_2 : BitVec 32 := 1#32
  let v6 : BitVec 32 := Scalar.shrsi v2 c1_i32_2
  let c1_i32_3 : BitVec 32 := 1#32
  let v7 : BitVec 32 := Scalar.andi v6 c1_i32_3
  let c256_i32_513 : BitVec 32 := 256#32
  let v553 : BitVec 32 := Scalar.muli v7 c256_i32_513
  let v554 : BitVec 32 := Scalar.addi v434 v553
  let c768_i32_731 : BitVec 32 := 768#32
  ![v554.toNat, 768]
def k0_dev30 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_720 : BitVec 32 := 8#32
  let v745 : BitVec 32 := Scalar.xori v2 c8_i32_720
  let c1_i32_727 : BitVec 32 := 1#32
  let v746 : BitVec 32 := Scalar.muli v745 c1_i32_727
  let v747 : BitVec 32 := Scalar.addi c0_i32_728 v746
  v747.toNat
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_145 : BitVec 32 := 1024#32
  let v177 : BitVec 32 := Scalar.muli v5 c1024_i32_145
  let c1_i32_2 : BitVec 32 := 1#32
  let v6 : BitVec 32 := Scalar.shrsi v2 c1_i32_2
  let c1_i32_3 : BitVec 32 := 1#32
  let v7 : BitVec 32 := Scalar.andi v6 c1_i32_3
  let c512_i32_200 : BitVec 32 := 512#32
  let v253 : BitVec 32 := Scalar.muli v7 c512_i32_200
  let v254 : BitVec 32 := Scalar.addi v177 v253
  let c2_i32 : BitVec 32 := 2#32
  let v8 : BitVec 32 := Scalar.shrsi v2 c2_i32
  let c1_i32_4 : BitVec 32 := 1#32
  let v9 : BitVec 32 := Scalar.andi v8 c1_i32_4
  let c256_i32_545 : BitVec 32 := 256#32
  let v583 : BitVec 32 := Scalar.muli v9 c256_i32_545
  let v584 : BitVec 32 := Scalar.addi v254 v583
  let v762 : Index := Scalar.indexCast v584
  let c0_743 : Index := 0#32
  ![v762.toNat, 0]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_145 : BitVec 32 := 1024#32
  let v177 : BitVec 32 := Scalar.muli v5 c1024_i32_145
  let c1_i32_2 : BitVec 32 := 1#32
  let v6 : BitVec 32 := Scalar.shrsi v2 c1_i32_2
  let c1_i32_3 : BitVec 32 := 1#32
  let v7 : BitVec 32 := Scalar.andi v6 c1_i32_3
  let c512_i32_200 : BitVec 32 := 512#32
  let v253 : BitVec 32 := Scalar.muli v7 c512_i32_200
  let v254 : BitVec 32 := Scalar.addi v177 v253
  let c2_i32 : BitVec 32 := 2#32
  let v8 : BitVec 32 := Scalar.shrsi v2 c2_i32
  let c1_i32_4 : BitVec 32 := 1#32
  let v9 : BitVec 32 := Scalar.andi v8 c1_i32_4
  let c256_i32_545 : BitVec 32 := 256#32
  let v583 : BitVec 32 := Scalar.muli v9 c256_i32_545
  let v584 : BitVec 32 := Scalar.addi v254 v583
  let c0_i32_760 : BitVec 32 := 0#32
  ![v584.toNat, 0]
def k0_dev31 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_749 : BitVec 32 := 8#32
  let v770 : BitVec 32 := Scalar.xori v2 c8_i32_749
  let c1_i32_756 : BitVec 32 := 1#32
  let v771 : BitVec 32 := Scalar.muli v770 c1_i32_756
  let v772 : BitVec 32 := Scalar.addi c0_i32_757 v771
  v772.toNat
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_154 : BitVec 32 := 1024#32
  let v195 : BitVec 32 := Scalar.muli v7 c1024_i32_154
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_293 : BitVec 32 := 512#32
  let v343 : BitVec 32 := Scalar.muli v5 c512_i32_293
  let v344 : BitVec 32 := Scalar.addi v195 v343
  let c2_i32 : BitVec 32 := 2#32
  let v8 : BitVec 32 := Scalar.shrsi v2 c2_i32
  let c1_i32_4 : BitVec 32 := 1#32
  let v9 : BitVec 32 := Scalar.andi v8 c1_i32_4
  let c256_i32_449 : BitVec 32 := 256#32
  let v493 : BitVec 32 := Scalar.muli v9 c256_i32_449
  let v494 : BitVec 32 := Scalar.addi v344 v493
  let v787 : Index := Scalar.indexCast v494
  let c384_772 : Index := 384#32
  ![v787.toNat, 384]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_154 : BitVec 32 := 1024#32
  let v195 : BitVec 32 := Scalar.muli v7 c1024_i32_154
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_293 : BitVec 32 := 512#32
  let v343 : BitVec 32 := Scalar.muli v5 c512_i32_293
  let v344 : BitVec 32 := Scalar.addi v195 v343
  let c2_i32 : BitVec 32 := 2#32
  let v8 : BitVec 32 := Scalar.shrsi v2 c2_i32
  let c1_i32_4 : BitVec 32 := 1#32
  let v9 : BitVec 32 := Scalar.andi v8 c1_i32_4
  let c256_i32_449 : BitVec 32 := 256#32
  let v493 : BitVec 32 := Scalar.muli v9 c256_i32_449
  let v494 : BitVec 32 := Scalar.addi v344 v493
  let c384_i32_789 : BitVec 32 := 384#32
  ![v494.toNat, 384]
def k0_dev32 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_778 : BitVec 32 := 8#32
  let v795 : BitVec 32 := Scalar.xori v2 c8_i32_778
  let c1_i32_785 : BitVec 32 := 1#32
  let v796 : BitVec 32 := Scalar.muli v795 c1_i32_785
  let v797 : BitVec 32 := Scalar.addi c0_i32_786 v796
  v797.toNat
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_160 : BitVec 32 := 1024#32
  let v207 : BitVec 32 := Scalar.muli v7 c1024_i32_160
  let c3_i32 : BitVec 32 := 3#32
  let v10 : BitVec 32 := Scalar.shrsi v2 c3_i32
  let c1_i32_5 : BitVec 32 := 1#32
  let v11 : BitVec 32 := Scalar.andi v10 c1_i32_5
  let c512_i32_355 : BitVec 32 := 512#32
  let v403 : BitVec 32 := Scalar.muli v11 c512_i32_355
  let v404 : BitVec 32 := Scalar.addi v207 v403
  let c2_i32 : BitVec 32 := 2#32
  let v8 : BitVec 32 := Scalar.shrsi v2 c2_i32
  let c1_i32_4 : BitVec 32 := 1#32
  let v9 : BitVec 32 := Scalar.andi v8 c1_i32_4
  let c256_i32_673 : BitVec 32 := 256#32
  let v703 : BitVec 32 := Scalar.muli v9 c256_i32_673
  let v704 : BitVec 32 := Scalar.addi v404 v703
  let v812 : Index := Scalar.indexCast v704
  let c640_801 : Index := 640#32
  ![v812.toNat, 640]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_160 : BitVec 32 := 1024#32
  let v207 : BitVec 32 := Scalar.muli v7 c1024_i32_160
  let c3_i32 : BitVec 32 := 3#32
  let v10 : BitVec 32 := Scalar.shrsi v2 c3_i32
  let c1_i32_5 : BitVec 32 := 1#32
  let v11 : BitVec 32 := Scalar.andi v10 c1_i32_5
  let c512_i32_355 : BitVec 32 := 512#32
  let v403 : BitVec 32 := Scalar.muli v11 c512_i32_355
  let v404 : BitVec 32 := Scalar.addi v207 v403
  let c2_i32 : BitVec 32 := 2#32
  let v8 : BitVec 32 := Scalar.shrsi v2 c2_i32
  let c1_i32_4 : BitVec 32 := 1#32
  let v9 : BitVec 32 := Scalar.andi v8 c1_i32_4
  let c256_i32_673 : BitVec 32 := 256#32
  let v703 : BitVec 32 := Scalar.muli v9 c256_i32_673
  let v704 : BitVec 32 := Scalar.addi v404 v703
  let c640_i32_818 : BitVec 32 := 640#32
  ![v704.toNat, 640]
def k0_dev33 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_807 : BitVec 32 := 1#32
  let v820 : BitVec 32 := Scalar.xori v2 c1_i32_807
  let c1_i32_814 : BitVec 32 := 1#32
  let v821 : BitVec 32 := Scalar.muli v820 c1_i32_814
  let v822 : BitVec 32 := Scalar.addi c0_i32_815 v821
  v822.toNat
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_148 : BitVec 32 := 1024#32
  let v183 : BitVec 32 := Scalar.muli v5 c1024_i32_148
  let c1_i32_2 : BitVec 32 := 1#32
  let v6 : BitVec 32 := Scalar.shrsi v2 c1_i32_2
  let c1_i32_3 : BitVec 32 := 1#32
  let v7 : BitVec 32 := Scalar.andi v6 c1_i32_3
  let c512_i32_231 : BitVec 32 := 512#32
  let v283 : BitVec 32 := Scalar.muli v7 c512_i32_231
  let v284 : BitVec 32 := Scalar.addi v183 v283
  let c3_i32 : BitVec 32 := 3#32
  let v10 : BitVec 32 := Scalar.shrsi v2 c3_i32
  let c1_i32_5 : BitVec 32 := 1#32
  let v11 : BitVec 32 := Scalar.andi v10 c1_i32_5
  let c256_i32_577 : BitVec 32 := 256#32
  let v613 : BitVec 32 := Scalar.muli v11 c256_i32_577
  let v614 : BitVec 32 := Scalar.addi v284 v613
  let v837 : Index := Scalar.indexCast v614
  let c128_830 : Index := 128#32
  ![v837.toNat, 128]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_148 : BitVec 32 := 1024#32
  let v183 : BitVec 32 := Scalar.muli v5 c1024_i32_148
  let c1_i32_2 : BitVec 32 := 1#32
  let v6 : BitVec 32 := Scalar.shrsi v2 c1_i32_2
  let c1_i32_3 : BitVec 32 := 1#32
  let v7 : BitVec 32 := Scalar.andi v6 c1_i32_3
  let c512_i32_231 : BitVec 32 := 512#32
  let v283 : BitVec 32 := Scalar.muli v7 c512_i32_231
  let v284 : BitVec 32 := Scalar.addi v183 v283
  let c3_i32 : BitVec 32 := 3#32
  let v10 : BitVec 32 := Scalar.shrsi v2 c3_i32
  let c1_i32_5 : BitVec 32 := 1#32
  let v11 : BitVec 32 := Scalar.andi v10 c1_i32_5
  let c256_i32_577 : BitVec 32 := 256#32
  let v613 : BitVec 32 := Scalar.muli v11 c256_i32_577
  let v614 : BitVec 32 := Scalar.addi v284 v613
  let c128_i32_847 : BitVec 32 := 128#32
  ![v614.toNat, 128]
def k0_dev34 (d0 : Dev nD) : Nat :=
  let c0_i32_844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_836 : BitVec 32 := 4#32
  let v845 : BitVec 32 := Scalar.xori v2 c4_i32_836
  let c1_i32_843 : BitVec 32 := 1#32
  let v846 : BitVec 32 := Scalar.muli v845 c1_i32_843
  let v847 : BitVec 32 := Scalar.addi c0_i32_844 v846
  v847.toNat
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_151 : BitVec 32 := 1024#32
  let v189 : BitVec 32 := Scalar.muli v5 c1024_i32_151
  let c2_i32 : BitVec 32 := 2#32
  let v8 : BitVec 32 := Scalar.shrsi v2 c2_i32
  let c1_i32_4 : BitVec 32 := 1#32
  let v9 : BitVec 32 := Scalar.andi v8 c1_i32_4
  let c512_i32_262 : BitVec 32 := 512#32
  let v313 : BitVec 32 := Scalar.muli v9 c512_i32_262
  let v314 : BitVec 32 := Scalar.addi v189 v313
  let c3_i32 : BitVec 32 := 3#32
  let v10 : BitVec 32 := Scalar.shrsi v2 c3_i32
  let c1_i32_5 : BitVec 32 := 1#32
  let v11 : BitVec 32 := Scalar.andi v10 c1_i32_5
  let c256_i32_641 : BitVec 32 := 256#32
  let v673 : BitVec 32 := Scalar.muli v11 c256_i32_641
  let v674 : BitVec 32 := Scalar.addi v314 v673
  let v862 : Index := Scalar.indexCast v674
  let c256_859 : Index := 256#32
  ![v862.toNat, 256]
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_151 : BitVec 32 := 1024#32
  let v189 : BitVec 32 := Scalar.muli v5 c1024_i32_151
  let c2_i32 : BitVec 32 := 2#32
  let v8 : BitVec 32 := Scalar.shrsi v2 c2_i32
  let c1_i32_4 : BitVec 32 := 1#32
  let v9 : BitVec 32 := Scalar.andi v8 c1_i32_4
  let c512_i32_262 : BitVec 32 := 512#32
  let v313 : BitVec 32 := Scalar.muli v9 c512_i32_262
  let v314 : BitVec 32 := Scalar.addi v189 v313
  let c3_i32 : BitVec 32 := 3#32
  let v10 : BitVec 32 := Scalar.shrsi v2 c3_i32
  let c1_i32_5 : BitVec 32 := 1#32
  let v11 : BitVec 32 := Scalar.andi v10 c1_i32_5
  let c256_i32_641 : BitVec 32 := 256#32
  let v673 : BitVec 32 := Scalar.muli v11 c256_i32_641
  let v674 : BitVec 32 := Scalar.addi v314 v673
  let c256_i32_876 : BitVec 32 := 256#32
  ![v674.toNat, 256]
def k0_dev35 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_865 : BitVec 32 := 3#32
  let v870 : BitVec 32 := Scalar.xori v2 c3_i32_865
  let c1_i32_872 : BitVec 32 := 1#32
  let v871 : BitVec 32 := Scalar.muli v870 c1_i32_872
  let v872 : BitVec 32 := Scalar.addi c0_i32_873 v871
  v872.toNat
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_157 : BitVec 32 := 1024#32
  let v201 : BitVec 32 := Scalar.muli v7 c1024_i32_157
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_324 : BitVec 32 := 512#32
  let v373 : BitVec 32 := Scalar.muli v5 c512_i32_324
  let v374 : BitVec 32 := Scalar.addi v201 v373
  let c3_i32 : BitVec 32 := 3#32
  let v10 : BitVec 32 := Scalar.shrsi v2 c3_i32
  let c1_i32_5 : BitVec 32 := 1#32
  let v11 : BitVec 32 := Scalar.andi v10 c1_i32_5
  let c256_i32_481 : BitVec 32 := 256#32
  let v523 : BitVec 32 := Scalar.muli v11 c256_i32_481
  let v524 : BitVec 32 := Scalar.addi v374 v523
  let v887 : Index := Scalar.indexCast v524
  let c512_888 : Index := 512#32
  ![v887.toNat, 512]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let c1024_i32_157 : BitVec 32 := 1024#32
  let v201 : BitVec 32 := Scalar.muli v7 c1024_i32_157
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c512_i32_324 : BitVec 32 := 512#32
  let v373 : BitVec 32 := Scalar.muli v5 c512_i32_324
  let v374 : BitVec 32 := Scalar.addi v201 v373
  let c3_i32 : BitVec 32 := 3#32
  let v10 : BitVec 32 := Scalar.shrsi v2 c3_i32
  let c1_i32_5 : BitVec 32 := 1#32
  let v11 : BitVec 32 := Scalar.andi v10 c1_i32_5
  let c256_i32_481 : BitVec 32 := 256#32
  let v523 : BitVec 32 := Scalar.muli v11 c256_i32_481
  let v524 : BitVec 32 := Scalar.addi v374 v523
  let c512_i32_905 : BitVec 32 := 512#32
  ![v524.toNat, 512]
def k0_dev36 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_894 : BitVec 32 := 4#32
  let v895 : BitVec 32 := Scalar.xori v2 c4_i32_894
  let c1_i32_901 : BitVec 32 := 1#32
  let v896 : BitVec 32 := Scalar.muli v895 c1_i32_901
  let v897 : BitVec 32 := Scalar.addi c0_i32_902 v896
  v897.toNat
def k0_off65 (d0 : Dev nD) (c0_i32_933 : BitVec 32) (c0_i32_936 : BitVec 32) (c0_i32_938 : BitVec 32) : Fin 2 → Nat :=
  let c0_i32_935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v925 : BitVec 32 := Scalar.xori v7 c0_i32_933
  let c1024_i32_934 : BitVec 32 := 1024#32
  let v926 : BitVec 32 := Scalar.muli v925 c1024_i32_934
  let v927 : BitVec 32 := Scalar.addi c0_i32_935 v926
  let c3_i32 : BitVec 32 := 3#32
  let v10 : BitVec 32 := Scalar.shrsi v2 c3_i32
  let c1_i32_5 : BitVec 32 := 1#32
  let v11 : BitVec 32 := Scalar.andi v10 c1_i32_5
  let v928 : BitVec 32 := Scalar.xori v11 c0_i32_936
  let c512_i32_937 : BitVec 32 := 512#32
  let v929 : BitVec 32 := Scalar.muli v928 c512_i32_937
  let v930 : BitVec 32 := Scalar.addi v927 v929
  let c2_i32 : BitVec 32 := 2#32
  let v8 : BitVec 32 := Scalar.shrsi v2 c2_i32
  let c1_i32_4 : BitVec 32 := 1#32
  let v9 : BitVec 32 := Scalar.andi v8 c1_i32_4
  let v931 : BitVec 32 := Scalar.xori v9 c0_i32_938
  let c256_i32_939 : BitVec 32 := 256#32
  let v932 : BitVec 32 := Scalar.muli v931 c256_i32_939
  let v933 : BitVec 32 := Scalar.addi v930 v932
  let c640_i32_947 : BitVec 32 := 640#32
  ![v933.toNat, 640]
def k0_dev37 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_940 : BitVec 32 := 4#32
  let v934 : BitVec 32 := Scalar.xori v2 c4_i32_940
  let c1_i32_945 : BitVec 32 := 1#32
  let v935 : BitVec 32 := Scalar.muli v934 c1_i32_945
  let v936 : BitVec 32 := Scalar.addi c0_i32_946 v935
  v936.toNat
def k0_dev38 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_956 : BitVec 32 := 8#32
  let v952 : BitVec 32 := Scalar.xori v2 c8_i32_956
  let c1_i32_961 : BitVec 32 := 1#32
  let v953 : BitVec 32 := Scalar.muli v952 c1_i32_961
  let v954 : BitVec 32 := Scalar.addi c0_i32_962 v953
  v954.toNat
def k0_dev39 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_972 : BitVec 32 := 3#32
  let v970 : BitVec 32 := Scalar.xori v2 c3_i32_972
  let c1_i32_977 : BitVec 32 := 1#32
  let v971 : BitVec 32 := Scalar.muli v970 c1_i32_977
  let v972 : BitVec 32 := Scalar.addi c0_i32_978 v971
  v972.toNat
def k0_off66 (d0 : Dev nD) (c0_i32_1008 : BitVec 32) (c0_i32_1011 : BitVec 32) (c0_i32_1013 : BitVec 32) : Fin 2 → Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v999 : BitVec 32 := Scalar.xori v5 c0_i32_1008
  let c1024_i32_1009 : BitVec 32 := 1024#32
  let v1000 : BitVec 32 := Scalar.muli v999 c1024_i32_1009
  let v1001 : BitVec 32 := Scalar.addi c0_i32_1010 v1000
  let c2_i32 : BitVec 32 := 2#32
  let v8 : BitVec 32 := Scalar.shrsi v2 c2_i32
  let c1_i32_4 : BitVec 32 := 1#32
  let v9 : BitVec 32 := Scalar.andi v8 c1_i32_4
  let v1002 : BitVec 32 := Scalar.xori v9 c0_i32_1011
  let c512_i32_1012 : BitVec 32 := 512#32
  let v1003 : BitVec 32 := Scalar.muli v1002 c512_i32_1012
  let v1004 : BitVec 32 := Scalar.addi v1001 v1003
  let c3_i32 : BitVec 32 := 3#32
  let v10 : BitVec 32 := Scalar.shrsi v2 c3_i32
  let c1_i32_5 : BitVec 32 := 1#32
  let v11 : BitVec 32 := Scalar.andi v10 c1_i32_5
  let v1005 : BitVec 32 := Scalar.xori v11 c0_i32_1013
  let c256_i32_1014 : BitVec 32 := 256#32
  let v1006 : BitVec 32 := Scalar.muli v1005 c256_i32_1014
  let v1007 : BitVec 32 := Scalar.addi v1004 v1006
  let c256_i32_1022 : BitVec 32 := 256#32
  ![v1007.toNat, 256]
def k0_dev40 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1015 : BitVec 32 := 8#32
  let v1008 : BitVec 32 := Scalar.xori v2 c8_i32_1015
  let c1_i32_1020 : BitVec 32 := 1#32
  let v1009 : BitVec 32 := Scalar.muli v1008 c1_i32_1020
  let v1010 : BitVec 32 := Scalar.addi c0_i32_1021 v1009
  v1010.toNat
def k0_dev41 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1031 : BitVec 32 := 4#32
  let v1026 : BitVec 32 := Scalar.xori v2 c4_i32_1031
  let c1_i32_1036 : BitVec 32 := 1#32
  let v1027 : BitVec 32 := Scalar.muli v1026 c1_i32_1036
  let v1028 : BitVec 32 := Scalar.addi c0_i32_1037 v1027
  v1028.toNat
def k0_dev42 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1047 : BitVec 32 := 1#32
  let v1044 : BitVec 32 := Scalar.xori v2 c1_i32_1047
  let c1_i32_1052 : BitVec 32 := 1#32
  let v1045 : BitVec 32 := Scalar.muli v1044 c1_i32_1052
  let v1046 : BitVec 32 := Scalar.addi c0_i32_1053 v1045
  v1046.toNat
def k0_off67 (d0 : Dev nD) (c0_i32_1083 : BitVec 32) (c0_i32_1086 : BitVec 32) (c0_i32_1088 : BitVec 32) : Fin 2 → Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v1073 : BitVec 32 := Scalar.xori v5 c0_i32_1083
  let c1024_i32_1084 : BitVec 32 := 1024#32
  let v1074 : BitVec 32 := Scalar.muli v1073 c1024_i32_1084
  let v1075 : BitVec 32 := Scalar.addi c0_i32_1085 v1074
  let c1_i32_2 : BitVec 32 := 1#32
  let v6 : BitVec 32 := Scalar.shrsi v2 c1_i32_2
  let c1_i32_3 : BitVec 32 := 1#32
  let v7 : BitVec 32 := Scalar.andi v6 c1_i32_3
  let v1076 : BitVec 32 := Scalar.xori v7 c0_i32_1086
  let c512_i32_1087 : BitVec 32 := 512#32
  let v1077 : BitVec 32 := Scalar.muli v1076 c512_i32_1087
  let v1078 : BitVec 32 := Scalar.addi v1075 v1077
  let c3_i32 : BitVec 32 := 3#32
  let v10 : BitVec 32 := Scalar.shrsi v2 c3_i32
  let c1_i32_5 : BitVec 32 := 1#32
  let v11 : BitVec 32 := Scalar.andi v10 c1_i32_5
  let v1079 : BitVec 32 := Scalar.xori v11 c0_i32_1088
  let c256_i32_1089 : BitVec 32 := 256#32
  let v1080 : BitVec 32 := Scalar.muli v1079 c256_i32_1089
  let v1081 : BitVec 32 := Scalar.addi v1078 v1080
  let c128_i32_1097 : BitVec 32 := 128#32
  ![v1081.toNat, 128]
def k0_dev43 (d0 : Dev nD) : Nat :=
  let c0_i32_1096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1090 : BitVec 32 := 8#32
  let v1082 : BitVec 32 := Scalar.xori v2 c8_i32_1090
  let c1_i32_1095 : BitVec 32 := 1#32
  let v1083 : BitVec 32 := Scalar.muli v1082 c1_i32_1095
  let v1084 : BitVec 32 := Scalar.addi c0_i32_1096 v1083
  v1084.toNat
def k0_dev44 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1106 : BitVec 32 := 3#32
  let v1100 : BitVec 32 := Scalar.xori v2 c3_i32_1106
  let c1_i32_1111 : BitVec 32 := 1#32
  let v1101 : BitVec 32 := Scalar.muli v1100 c1_i32_1111
  let v1102 : BitVec 32 := Scalar.addi c0_i32_1112 v1101
  v1102.toNat
def k0_dev45 (d0 : Dev nD) : Nat :=
  let c0_i32_1128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1122 : BitVec 32 := 1#32
  let v1118 : BitVec 32 := Scalar.xori v2 c1_i32_1122
  let c1_i32_1127 : BitVec 32 := 1#32
  let v1119 : BitVec 32 := Scalar.muli v1118 c1_i32_1127
  let v1120 : BitVec 32 := Scalar.addi c0_i32_1128 v1119
  v1120.toNat
def k0_off68 (d0 : Dev nD) (c0_i32_1158 : BitVec 32) (c0_i32_1161 : BitVec 32) (c0_i32_1163 : BitVec 32) : Fin 2 → Nat :=
  let c0_i32_1160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v1147 : BitVec 32 := Scalar.xori v7 c0_i32_1158
  let c1024_i32_1159 : BitVec 32 := 1024#32
  let v1148 : BitVec 32 := Scalar.muli v1147 c1024_i32_1159
  let v1149 : BitVec 32 := Scalar.addi c0_i32_1160 v1148
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v1150 : BitVec 32 := Scalar.xori v5 c0_i32_1161
  let c512_i32_1162 : BitVec 32 := 512#32
  let v1151 : BitVec 32 := Scalar.muli v1150 c512_i32_1162
  let v1152 : BitVec 32 := Scalar.addi v1149 v1151
  let c3_i32 : BitVec 32 := 3#32
  let v10 : BitVec 32 := Scalar.shrsi v2 c3_i32
  let c1_i32_5 : BitVec 32 := 1#32
  let v11 : BitVec 32 := Scalar.andi v10 c1_i32_5
  let v1153 : BitVec 32 := Scalar.xori v11 c0_i32_1163
  let c256_i32_1164 : BitVec 32 := 256#32
  let v1154 : BitVec 32 := Scalar.muli v1153 c256_i32_1164
  let v1155 : BitVec 32 := Scalar.addi v1152 v1154
  let c512_i32_1172 : BitVec 32 := 512#32
  ![v1155.toNat, 512]
def k0_dev46 (d0 : Dev nD) : Nat :=
  let c0_i32_1171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1165 : BitVec 32 := 8#32
  let v1156 : BitVec 32 := Scalar.xori v2 c8_i32_1165
  let c1_i32_1170 : BitVec 32 := 1#32
  let v1157 : BitVec 32 := Scalar.muli v1156 c1_i32_1170
  let v1158 : BitVec 32 := Scalar.addi c0_i32_1171 v1157
  v1158.toNat
def k0_dev47 (d0 : Dev nD) : Nat :=
  let c0_i32_1187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1181 : BitVec 32 := 1#32
  let v1174 : BitVec 32 := Scalar.xori v2 c1_i32_1181
  let c1_i32_1186 : BitVec 32 := 1#32
  let v1175 : BitVec 32 := Scalar.muli v1174 c1_i32_1186
  let v1176 : BitVec 32 := Scalar.addi c0_i32_1187 v1175
  v1176.toNat
def k0_dev48 (d0 : Dev nD) : Nat :=
  let c0_i32_1203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1197 : BitVec 32 := 3#32
  let v1192 : BitVec 32 := Scalar.xori v2 c3_i32_1197
  let c1_i32_1202 : BitVec 32 := 1#32
  let v1193 : BitVec 32 := Scalar.muli v1192 c1_i32_1202
  let v1194 : BitVec 32 := Scalar.addi c0_i32_1203 v1193
  v1194.toNat
def k0_off69 (d0 : Dev nD) (c0_i32_1233 : BitVec 32) (c0_i32_1236 : BitVec 32) (c0_i32_1238 : BitVec 32) : Fin 2 → Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.shrsi v2 c3_i32
  let c1_i32_5 : BitVec 32 := 1#32
  let v11 : BitVec 32 := Scalar.andi v10 c1_i32_5
  let v1221 : BitVec 32 := Scalar.xori v11 c0_i32_1233
  let c1024_i32_1234 : BitVec 32 := 1024#32
  let v1222 : BitVec 32 := Scalar.muli v1221 c1024_i32_1234
  let v1223 : BitVec 32 := Scalar.addi c0_i32_1235 v1222
  let c1_i32_2 : BitVec 32 := 1#32
  let v6 : BitVec 32 := Scalar.shrsi v2 c1_i32_2
  let c1_i32_3 : BitVec 32 := 1#32
  let v7 : BitVec 32 := Scalar.andi v6 c1_i32_3
  let v1224 : BitVec 32 := Scalar.xori v7 c0_i32_1236
  let c512_i32_1237 : BitVec 32 := 512#32
  let v1225 : BitVec 32 := Scalar.muli v1224 c512_i32_1237
  let v1226 : BitVec 32 := Scalar.addi v1223 v1225
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v1227 : BitVec 32 := Scalar.xori v5 c0_i32_1238
  let c256_i32_1239 : BitVec 32 := 256#32
  let v1228 : BitVec 32 := Scalar.muli v1227 c256_i32_1239
  let v1229 : BitVec 32 := Scalar.addi v1226 v1228
  let c896_i32_1247 : BitVec 32 := 896#32
  ![v1229.toNat, 896]
def k0_dev49 (d0 : Dev nD) : Nat :=
  let c0_i32_1246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1240 : BitVec 32 := 1#32
  let v1230 : BitVec 32 := Scalar.xori v2 c1_i32_1240
  let c1_i32_1245 : BitVec 32 := 1#32
  let v1231 : BitVec 32 := Scalar.muli v1230 c1_i32_1245
  let v1232 : BitVec 32 := Scalar.addi c0_i32_1246 v1231
  v1232.toNat
def k0_dev50 (d0 : Dev nD) : Nat :=
  let c0_i32_1262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1256 : BitVec 32 := 3#32
  let v1248 : BitVec 32 := Scalar.xori v2 c3_i32_1256
  let c1_i32_1261 : BitVec 32 := 1#32
  let v1249 : BitVec 32 := Scalar.muli v1248 c1_i32_1261
  let v1250 : BitVec 32 := Scalar.addi c0_i32_1262 v1249
  v1250.toNat
def k0_dev51 (d0 : Dev nD) : Nat :=
  let c0_i32_1278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1272 : BitVec 32 := 8#32
  let v1266 : BitVec 32 := Scalar.xori v2 c8_i32_1272
  let c1_i32_1277 : BitVec 32 := 1#32
  let v1267 : BitVec 32 := Scalar.muli v1266 c1_i32_1277
  let v1268 : BitVec 32 := Scalar.addi c0_i32_1278 v1267
  v1268.toNat
def k0_off70 (d0 : Dev nD) (c0_i32_1308 : BitVec 32) (c0_i32_1311 : BitVec 32) (c0_i32_1313 : BitVec 32) : Fin 2 → Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v1295 : BitVec 32 := Scalar.xori v5 c0_i32_1308
  let c1024_i32_1309 : BitVec 32 := 1024#32
  let v1296 : BitVec 32 := Scalar.muli v1295 c1024_i32_1309
  let v1297 : BitVec 32 := Scalar.addi c0_i32_1310 v1296
  let c1_i32_2 : BitVec 32 := 1#32
  let v6 : BitVec 32 := Scalar.shrsi v2 c1_i32_2
  let c1_i32_3 : BitVec 32 := 1#32
  let v7 : BitVec 32 := Scalar.andi v6 c1_i32_3
  let v1298 : BitVec 32 := Scalar.xori v7 c0_i32_1311
  let c512_i32_1312 : BitVec 32 := 512#32
  let v1299 : BitVec 32 := Scalar.muli v1298 c512_i32_1312
  let v1300 : BitVec 32 := Scalar.addi v1297 v1299
  let c2_i32 : BitVec 32 := 2#32
  let v8 : BitVec 32 := Scalar.shrsi v2 c2_i32
  let c1_i32_4 : BitVec 32 := 1#32
  let v9 : BitVec 32 := Scalar.andi v8 c1_i32_4
  let v1301 : BitVec 32 := Scalar.xori v9 c0_i32_1313
  let c256_i32_1314 : BitVec 32 := 256#32
  let v1302 : BitVec 32 := Scalar.muli v1301 c256_i32_1314
  let v1303 : BitVec 32 := Scalar.addi v1300 v1302
  let c0_i32_1322 : BitVec 32 := 0#32
  ![v1303.toNat, 0]
def k0_dev52 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1315 : BitVec 32 := 4#32
  let v1304 : BitVec 32 := Scalar.xori v2 c4_i32_1315
  let c1_i32_1320 : BitVec 32 := 1#32
  let v1305 : BitVec 32 := Scalar.muli v1304 c1_i32_1320
  let v1306 : BitVec 32 := Scalar.addi c0_i32_1321 v1305
  v1306.toNat
def k0_dev53 (d0 : Dev nD) : Nat :=
  let c0_i32_1337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1331 : BitVec 32 := 3#32
  let v1322 : BitVec 32 := Scalar.xori v2 c3_i32_1331
  let c1_i32_1336 : BitVec 32 := 1#32
  let v1323 : BitVec 32 := Scalar.muli v1322 c1_i32_1336
  let v1324 : BitVec 32 := Scalar.addi c0_i32_1337 v1323
  v1324.toNat
def k0_dev54 (d0 : Dev nD) : Nat :=
  let c0_i32_1353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1347 : BitVec 32 := 1#32
  let v1340 : BitVec 32 := Scalar.xori v2 c1_i32_1347
  let c1_i32_1352 : BitVec 32 := 1#32
  let v1341 : BitVec 32 := Scalar.muli v1340 c1_i32_1352
  let v1342 : BitVec 32 := Scalar.addi c0_i32_1353 v1341
  v1342.toNat
def k0_off71 (d0 : Dev nD) (c0_i32_1383 : BitVec 32) (c0_i32_1386 : BitVec 32) (c0_i32_1388 : BitVec 32) : Fin 2 → Nat :=
  let c0_i32_1385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.shrsi v2 c1_i32_2
  let c1_i32_3 : BitVec 32 := 1#32
  let v7 : BitVec 32 := Scalar.andi v6 c1_i32_3
  let v1369 : BitVec 32 := Scalar.xori v7 c0_i32_1383
  let c1024_i32_1384 : BitVec 32 := 1024#32
  let v1370 : BitVec 32 := Scalar.muli v1369 c1024_i32_1384
  let v1371 : BitVec 32 := Scalar.addi c0_i32_1385 v1370
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v1372 : BitVec 32 := Scalar.xori v5 c0_i32_1386
  let c512_i32_1387 : BitVec 32 := 512#32
  let v1373 : BitVec 32 := Scalar.muli v1372 c512_i32_1387
  let v1374 : BitVec 32 := Scalar.addi v1371 v1373
  let c2_i32 : BitVec 32 := 2#32
  let v8 : BitVec 32 := Scalar.shrsi v2 c2_i32
  let c1_i32_4 : BitVec 32 := 1#32
  let v9 : BitVec 32 := Scalar.andi v8 c1_i32_4
  let v1375 : BitVec 32 := Scalar.xori v9 c0_i32_1388
  let c256_i32_1389 : BitVec 32 := 256#32
  let v1376 : BitVec 32 := Scalar.muli v1375 c256_i32_1389
  let v1377 : BitVec 32 := Scalar.addi v1374 v1376
  let c384_i32_1397 : BitVec 32 := 384#32
  ![v1377.toNat, 384]
def k0_dev55 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1390 : BitVec 32 := 4#32
  let v1378 : BitVec 32 := Scalar.xori v2 c4_i32_1390
  let c1_i32_1395 : BitVec 32 := 1#32
  let v1379 : BitVec 32 := Scalar.muli v1378 c1_i32_1395
  let v1380 : BitVec 32 := Scalar.addi c0_i32_1396 v1379
  v1380.toNat
def k0_dev56 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1406 : BitVec 32 := 1#32
  let v1396 : BitVec 32 := Scalar.xori v2 c1_i32_1406
  let c1_i32_1411 : BitVec 32 := 1#32
  let v1397 : BitVec 32 := Scalar.muli v1396 c1_i32_1411
  let v1398 : BitVec 32 := Scalar.addi c0_i32_1412 v1397
  v1398.toNat
def k0_dev57 (d0 : Dev nD) : Nat :=
  let c0_i32_1428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1422 : BitVec 32 := 3#32
  let v1414 : BitVec 32 := Scalar.xori v2 c3_i32_1422
  let c1_i32_1427 : BitVec 32 := 1#32
  let v1415 : BitVec 32 := Scalar.muli v1414 c1_i32_1427
  let v1416 : BitVec 32 := Scalar.addi c0_i32_1428 v1415
  v1416.toNat
def k0_off72 (d0 : Dev nD) (c0_i32_1458 : BitVec 32) (c0_i32_1461 : BitVec 32) (c0_i32_1463 : BitVec 32) : Fin 2 → Nat :=
  let c0_i32_1460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.shrsi v2 c2_i32
  let c1_i32_4 : BitVec 32 := 1#32
  let v9 : BitVec 32 := Scalar.andi v8 c1_i32_4
  let v1443 : BitVec 32 := Scalar.xori v9 c0_i32_1458
  let c1024_i32_1459 : BitVec 32 := 1024#32
  let v1444 : BitVec 32 := Scalar.muli v1443 c1024_i32_1459
  let v1445 : BitVec 32 := Scalar.addi c0_i32_1460 v1444
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v1446 : BitVec 32 := Scalar.xori v5 c0_i32_1461
  let c512_i32_1462 : BitVec 32 := 512#32
  let v1447 : BitVec 32 := Scalar.muli v1446 c512_i32_1462
  let v1448 : BitVec 32 := Scalar.addi v1445 v1447
  let c1_i32_2 : BitVec 32 := 1#32
  let v6 : BitVec 32 := Scalar.shrsi v2 c1_i32_2
  let c1_i32_3 : BitVec 32 := 1#32
  let v7 : BitVec 32 := Scalar.andi v6 c1_i32_3
  let v1449 : BitVec 32 := Scalar.xori v7 c0_i32_1463
  let c256_i32_1464 : BitVec 32 := 256#32
  let v1450 : BitVec 32 := Scalar.muli v1449 c256_i32_1464
  let v1451 : BitVec 32 := Scalar.addi v1448 v1450
  let c768_i32_1472 : BitVec 32 := 768#32
  ![v1451.toNat, 768]
def k0_dev58 (d0 : Dev nD) : Nat :=
  let c0_i32_1471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1465 : BitVec 32 := 3#32
  let v1452 : BitVec 32 := Scalar.xori v2 c3_i32_1465
  let c1_i32_1470 : BitVec 32 := 1#32
  let v1453 : BitVec 32 := Scalar.muli v1452 c1_i32_1470
  let v1454 : BitVec 32 := Scalar.addi c0_i32_1471 v1453
  v1454.toNat
def k0_dev59 (d0 : Dev nD) : Nat :=
  let c0_i32_1487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1481 : BitVec 32 := 1#32
  let v1470 : BitVec 32 := Scalar.xori v2 c1_i32_1481
  let c1_i32_1486 : BitVec 32 := 1#32
  let v1471 : BitVec 32 := Scalar.muli v1470 c1_i32_1486
  let v1472 : BitVec 32 := Scalar.addi c0_i32_1487 v1471
  v1472.toNat
def k0_dev60 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1497 : BitVec 32 := 4#32
  let v1488 : BitVec 32 := Scalar.xori v2 c4_i32_1497
  let c1_i32_1502 : BitVec 32 := 1#32
  let v1489 : BitVec 32 := Scalar.muli v1488 c1_i32_1502
  let v1490 : BitVec 32 := Scalar.addi c0_i32_1503 v1489
  v1490.toNat
def k0_dev61 (d0 : Dev nD) : Nat :=
  let c0_i32_1535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1529 : BitVec 32 := 3#32
  let v1522 : BitVec 32 := Scalar.xori v2 c3_i32_1529
  let c1_i32_1534 : BitVec 32 := 1#32
  let v1523 : BitVec 32 := Scalar.muli v1522 c1_i32_1534
  let v1524 : BitVec 32 := Scalar.addi c0_i32_1535 v1523
  v1524.toNat
def k0_dev62 (d0 : Dev nD) : Nat :=
  let c0_i32_1551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1545 : BitVec 32 := 8#32
  let v1540 : BitVec 32 := Scalar.xori v2 c8_i32_1545
  let c1_i32_1550 : BitVec 32 := 1#32
  let v1541 : BitVec 32 := Scalar.muli v1540 c1_i32_1550
  let v1542 : BitVec 32 := Scalar.addi c0_i32_1551 v1541
  v1542.toNat
def k0_dev63 (d0 : Dev nD) : Nat :=
  let c0_i32_1583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1577 : BitVec 32 := 1#32
  let v1574 : BitVec 32 := Scalar.xori v2 c1_i32_1577
  let c1_i32_1582 : BitVec 32 := 1#32
  let v1575 : BitVec 32 := Scalar.muli v1574 c1_i32_1582
  let v1576 : BitVec 32 := Scalar.addi c0_i32_1583 v1575
  v1576.toNat
def k0_dev64 (d0 : Dev nD) : Nat :=
  let c0_i32_1599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1593 : BitVec 32 := 4#32
  let v1592 : BitVec 32 := Scalar.xori v2 c4_i32_1593
  let c1_i32_1598 : BitVec 32 := 1#32
  let v1593 : BitVec 32 := Scalar.muli v1592 c1_i32_1598
  let v1594 : BitVec 32 := Scalar.addi c0_i32_1599 v1593
  v1594.toNat
def k0_dev65 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1625 : BitVec 32 := 3#32
  let v1626 : BitVec 32 := Scalar.xori v2 c3_i32_1625
  let c1_i32_1630 : BitVec 32 := 1#32
  let v1627 : BitVec 32 := Scalar.muli v1626 c1_i32_1630
  let v1628 : BitVec 32 := Scalar.addi c0_i32_1631 v1627
  v1628.toNat
def k0_dev66 (d0 : Dev nD) : Nat :=
  let c0_i32_1647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1641 : BitVec 32 := 1#32
  let v1644 : BitVec 32 := Scalar.xori v2 c1_i32_1641
  let c1_i32_1646 : BitVec 32 := 1#32
  let v1645 : BitVec 32 := Scalar.muli v1644 c1_i32_1646
  let v1646 : BitVec 32 := Scalar.addi c0_i32_1647 v1645
  v1646.toNat
def k0_dev67 (d0 : Dev nD) : Nat :=
  let c0_i32_1679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1673 : BitVec 32 := 1#32
  let v1678 : BitVec 32 := Scalar.xori v2 c1_i32_1673
  let c1_i32_1678 : BitVec 32 := 1#32
  let v1679 : BitVec 32 := Scalar.muli v1678 c1_i32_1678
  let v1680 : BitVec 32 := Scalar.addi c0_i32_1679 v1679
  v1680.toNat
def k0_dev68 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1689 : BitVec 32 := 3#32
  let v1696 : BitVec 32 := Scalar.xori v2 c3_i32_1689
  let c1_i32_1694 : BitVec 32 := 1#32
  let v1697 : BitVec 32 := Scalar.muli v1696 c1_i32_1694
  let v1698 : BitVec 32 := Scalar.addi c0_i32_1695 v1697
  v1698.toNat
def k0_dev69 (d0 : Dev nD) : Nat :=
  let c0_i32_1727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1721 : BitVec 32 := 8#32
  let v1730 : BitVec 32 := Scalar.xori v2 c8_i32_1721
  let c1_i32_1726 : BitVec 32 := 1#32
  let v1731 : BitVec 32 := Scalar.muli v1730 c1_i32_1726
  let v1732 : BitVec 32 := Scalar.addi c0_i32_1727 v1731
  v1732.toNat
def k0_dev70 (d0 : Dev nD) : Nat :=
  let c0_i32_1743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1737 : BitVec 32 := 3#32
  let v1748 : BitVec 32 := Scalar.xori v2 c3_i32_1737
  let c1_i32_1742 : BitVec 32 := 1#32
  let v1749 : BitVec 32 := Scalar.muli v1748 c1_i32_1742
  let v1750 : BitVec 32 := Scalar.addi c0_i32_1743 v1749
  v1750.toNat
def k0_dev71 (d0 : Dev nD) : Nat :=
  let c0_i32_1775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1769 : BitVec 32 := 3#32
  let v1782 : BitVec 32 := Scalar.xori v2 c3_i32_1769
  let c1_i32_1774 : BitVec 32 := 1#32
  let v1783 : BitVec 32 := Scalar.muli v1782 c1_i32_1774
  let v1784 : BitVec 32 := Scalar.addi c0_i32_1775 v1783
  v1784.toNat
def k0_dev72 (d0 : Dev nD) : Nat :=
  let c0_i32_1791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1785 : BitVec 32 := 1#32
  let v1800 : BitVec 32 := Scalar.xori v2 c1_i32_1785
  let c1_i32_1790 : BitVec 32 := 1#32
  let v1801 : BitVec 32 := Scalar.muli v1800 c1_i32_1790
  let v1802 : BitVec 32 := Scalar.addi c0_i32_1791 v1801
  v1802.toNat
def k0_dev73 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1817 : BitVec 32 := 4#32
  let v1834 : BitVec 32 := Scalar.xori v2 c4_i32_1817
  let c1_i32_1822 : BitVec 32 := 1#32
  let v1835 : BitVec 32 := Scalar.muli v1834 c1_i32_1822
  let v1836 : BitVec 32 := Scalar.addi c0_i32_1823 v1835
  v1836.toNat
def k0_dev74 (d0 : Dev nD) : Nat :=
  let c0_i32_1839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1833 : BitVec 32 := 1#32
  let v1852 : BitVec 32 := Scalar.xori v2 c1_i32_1833
  let c1_i32_1838 : BitVec 32 := 1#32
  let v1853 : BitVec 32 := Scalar.muli v1852 c1_i32_1838
  let v1854 : BitVec 32 := Scalar.addi c0_i32_1839 v1853
  v1854.toNat
def k0_dev75 (d0 : Dev nD) : Nat :=
  let c0_i32_1871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1865 : BitVec 32 := 1#32
  let v1886 : BitVec 32 := Scalar.xori v2 c1_i32_1865
  let c1_i32_1870 : BitVec 32 := 1#32
  let v1887 : BitVec 32 := Scalar.muli v1886 c1_i32_1870
  let v1888 : BitVec 32 := Scalar.addi c0_i32_1871 v1887
  v1888.toNat
def k0_dev76 (d0 : Dev nD) : Nat :=
  let c0_i32_1887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1881 : BitVec 32 := 3#32
  let v1904 : BitVec 32 := Scalar.xori v2 c3_i32_1881
  let c1_i32_1886 : BitVec 32 := 1#32
  let v1905 : BitVec 32 := Scalar.muli v1904 c1_i32_1886
  let v1906 : BitVec 32 := Scalar.addi c0_i32_1887 v1905
  v1906.toNat
def k0_dev77 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1913 : BitVec 32 := 3#32
  let v1938 : BitVec 32 := Scalar.xori v2 c3_i32_1913
  let c1_i32_1918 : BitVec 32 := 1#32
  let v1939 : BitVec 32 := Scalar.muli v1938 c1_i32_1918
  let v1940 : BitVec 32 := Scalar.addi c0_i32_1919 v1939
  v1940.toNat
def k0_dev78 (d0 : Dev nD) : Nat :=
  let c0_i32_1951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1945 : BitVec 32 := 3#32
  let v1972 : BitVec 32 := Scalar.xori v2 c3_i32_1945
  let c1_i32_1950 : BitVec 32 := 1#32
  let v1973 : BitVec 32 := Scalar.muli v1972 c1_i32_1950
  let v1974 : BitVec 32 := Scalar.addi c0_i32_1951 v1973
  v1974.toNat
def k0_dev79 (d0 : Dev nD) : Nat :=
  let c0_i32_1983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1977 : BitVec 32 := 4#32
  let v2006 : BitVec 32 := Scalar.xori v2 c4_i32_1977
  let c1_i32_1982 : BitVec 32 := 1#32
  let v2007 : BitVec 32 := Scalar.muli v2006 c1_i32_1982
  let v2008 : BitVec 32 := Scalar.addi c0_i32_1983 v2007
  v2008.toNat
def k0_dev80 (d0 : Dev nD) : Nat :=
  let c0_i32_2015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2009 : BitVec 32 := 1#32
  let v2040 : BitVec 32 := Scalar.xori v2 c1_i32_2009
  let c1_i32_2014 : BitVec 32 := 1#32
  let v2041 : BitVec 32 := Scalar.muli v2040 c1_i32_2014
  let v2042 : BitVec 32 := Scalar.addi c0_i32_2015 v2041
  v2042.toNat
def k0_dev81 (d0 : Dev nD) : Nat :=
  let c0_i32_2047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2041 : BitVec 32 := 1#32
  let v2074 : BitVec 32 := Scalar.xori v2 c1_i32_2041
  let c1_i32_2046 : BitVec 32 := 1#32
  let v2075 : BitVec 32 := Scalar.muli v2074 c1_i32_2046
  let v2076 : BitVec 32 := Scalar.addi c0_i32_2047 v2075
  v2076.toNat
def k0_dev82 (d0 : Dev nD) : Nat :=
  let c0_i32_2079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2073 : BitVec 32 := 8#32
  let v2108 : BitVec 32 := Scalar.xori v2 c8_i32_2073
  let c1_i32_2078 : BitVec 32 := 1#32
  let v2109 : BitVec 32 := Scalar.muli v2108 c1_i32_2078
  let v2110 : BitVec 32 := Scalar.addi c0_i32_2079 v2109
  v2110.toNat
def k0_dev83 (d0 : Dev nD) : Nat :=
  let c0_i32_2111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2105 : BitVec 32 := 1#32
  let v2142 : BitVec 32 := Scalar.xori v2 c1_i32_2105
  let c1_i32_2110 : BitVec 32 := 1#32
  let v2143 : BitVec 32 := Scalar.muli v2142 c1_i32_2110
  let v2144 : BitVec 32 := Scalar.addi c0_i32_2111 v2143
  v2144.toNat
def k0_dev84 (d0 : Dev nD) : Nat :=
  let c0_i32_2143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2137 : BitVec 32 := 3#32
  let v2176 : BitVec 32 := Scalar.xori v2 c3_i32_2137
  let c1_i32_2142 : BitVec 32 := 1#32
  let v2177 : BitVec 32 := Scalar.muli v2176 c1_i32_2142
  let v2178 : BitVec 32 := Scalar.addi c0_i32_2143 v2177
  v2178.toNat
def k0_dev85 (d0 : Dev nD) : Nat :=
  let c0_i32_2175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2169 : BitVec 32 := 3#32
  let v2210 : BitVec 32 := Scalar.xori v2 c3_i32_2169
  let c1_i32_2174 : BitVec 32 := 1#32
  let v2211 : BitVec 32 := Scalar.muli v2210 c1_i32_2174
  let v2212 : BitVec 32 := Scalar.addi c0_i32_2175 v2211
  v2212.toNat
def k0_dev86 (d0 : Dev nD) : Nat :=
  let c0_i32_2207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2201 : BitVec 32 := 3#32
  let v2244 : BitVec 32 := Scalar.xori v2 c3_i32_2201
  let c1_i32_2206 : BitVec 32 := 1#32
  let v2245 : BitVec 32 := Scalar.muli v2244 c1_i32_2206
  let v2246 : BitVec 32 := Scalar.addi c0_i32_2207 v2245
  v2246.toNat
def k0_dev87 (d0 : Dev nD) : Nat :=
  let c0_i32_2239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2233 : BitVec 32 := 4#32
  let v2278 : BitVec 32 := Scalar.xori v2 c4_i32_2233
  let c1_i32_2238 : BitVec 32 := 1#32
  let v2279 : BitVec 32 := Scalar.muli v2278 c1_i32_2238
  let v2280 : BitVec 32 := Scalar.addi c0_i32_2239 v2279
  v2280.toNat
def k0_dev88 (d0 : Dev nD) : Nat :=
  let c0_i32_2271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2265 : BitVec 32 := 1#32
  let v2312 : BitVec 32 := Scalar.xori v2 c1_i32_2265
  let c1_i32_2270 : BitVec 32 := 1#32
  let v2313 : BitVec 32 := Scalar.muli v2312 c1_i32_2270
  let v2314 : BitVec 32 := Scalar.addi c0_i32_2271 v2313
  v2314.toNat
def k0_dev89 (d0 : Dev nD) : Nat :=
  let c0_i32_2303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2297 : BitVec 32 := 1#32
  let v2346 : BitVec 32 := Scalar.xori v2 c1_i32_2297
  let c1_i32_2302 : BitVec 32 := 1#32
  let v2347 : BitVec 32 := Scalar.muli v2346 c1_i32_2302
  let v2348 : BitVec 32 := Scalar.addi c0_i32_2303 v2347
  v2348.toNat
def k0_dev90 (d0 : Dev nD) : Nat :=
  let c0_i32_2335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2329 : BitVec 32 := 8#32
  let v2380 : BitVec 32 := Scalar.xori v2 c8_i32_2329
  let c1_i32_2334 : BitVec 32 := 1#32
  let v2381 : BitVec 32 := Scalar.muli v2380 c1_i32_2334
  let v2382 : BitVec 32 := Scalar.addi c0_i32_2335 v2381
  v2382.toNat
def k0_dev91 (d0 : Dev nD) : Nat :=
  let c0_i32_2367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2361 : BitVec 32 := 1#32
  let v2414 : BitVec 32 := Scalar.xori v2 c1_i32_2361
  let c1_i32_2366 : BitVec 32 := 1#32
  let v2415 : BitVec 32 := Scalar.muli v2414 c1_i32_2366
  let v2416 : BitVec 32 := Scalar.addi c0_i32_2367 v2415
  v2416.toNat
def k0_dev92 (d0 : Dev nD) : Nat :=
  let c0_i32_2399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2393 : BitVec 32 := 3#32
  let v2448 : BitVec 32 := Scalar.xori v2 c3_i32_2393
  let c1_i32_2398 : BitVec 32 := 1#32
  let v2449 : BitVec 32 := Scalar.muli v2448 c1_i32_2398
  let v2450 : BitVec 32 := Scalar.addi c0_i32_2399 v2449
  v2450.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S16x2048x1024 : Shape := ⟨3, ![16, 2048, 1024]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S16x2048x1024, .bf16⟩
  | .hbm, ⟨2, _⟩ => ⟨S16x2048x1024, .f32⟩
  | .hbm, ⟨3, _⟩ => ⟨S_, .f32⟩
  | .hbm, ⟨4, _⟩ => ⟨S2048x1024, .f32⟩
  | .hbm, ⟨5, _⟩ => ⟨S2048x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Geom.lean ====
/-
  The geometry of the exchange: which device a device talks to in each step of each strip, which
  rows of a strip a device works on, the views of the kernel as such regions, and what the
  regions hold.
-/
module

public import proofs.«01_k».proof.Proof.Gen.KernelIdeal.Skeleton
public import Idealize.ShloMosaic.Lib.ValueLayout

@[expose] public section

noncomputable section

namespace Cert.Exchange

open Cert.KernelIdeal Cert.KernelIdeal.Gen

open Idealize.ShloMosaic
open Idealize.ShloMosaic.TcCoe

/-! ## Neighbours -/

/-- The direction (an index into the four masks 1, 3, 4, 8) strip `q` uses in step `t`. -/
def ord (q : Fin 8) (t : Fin 4) : Fin 4 :=
  (![![0, 1, 2, 3], ![0, 1, 3, 2], ![0, 2, 3, 1], ![1, 0, 2, 3], ![1, 0, 3, 2], ![1, 3, 2, 0], ![2, 0, 1, 3], ![3, 1, 0, 2]] :
    Fin 8 → Fin 4 → Fin 4) q t

/-- The step in which strip `q` uses direction `d`. -/
def inv (q : Fin 8) (d : Fin 4) : Fin 4 :=
  if ord q 0 = d then 0 else if ord q 1 = d then 1 else if ord q 2 = d then 2 else 3

theorem ord_inv : ∀ q d, ord q (inv q d) = d := by decide
theorem inv_ord : ∀ q t, inv q (ord q t) = t := by decide

/-- The device across direction `d`. -/
def flip (d : Fin 4) (c : Dev nD) : Dev nD := Fin.ofNat 16 (c.val ^^^ (![1, 3, 4, 8] : Fin 4 → ℕ) d)

theorem flip_flip : ∀ d c, flip d (flip d c) = c := by decide +kernel

/-- The device strip `q` exchanges with in step `t`. -/
def nbr (q : Fin 8) (t : Fin 4) (c : Dev nD) : Dev nD := flip (ord q t) c

theorem nbr_nbr (q : Fin 8) (t : Fin 4) (c : Dev nD) : nbr q t (nbr q t c) = c := flip_flip _ _

/-- A device's bit along a direction: the bit only that direction changes. -/
def along (d : Fin 4) (c : Dev nD) : Bool :=
  (![(c.val.testBit 0).xor (c.val.testBit 1), c.val.testBit 1, c.val.testBit 2, c.val.testBit 3] : Fin 4 → Bool) d

/-! ## Rows -/

/-- The number of rows of a piece after `n` halvings. -/
def rows (n : Fin 4) : ℕ := (![2048, 1024, 512, 256] : Fin 4 → ℕ) n

/-- The first row of the piece reached by `n` halvings in which device `c` takes its own half at step `s` if bit `s` of
    `v` is 0 and the other half if it is 1. -/
def rowOff (c : Dev nD) (q v : Fin 8) (n : Fin 4) : ℕ :=
  (if 0 < n.val ∧ ((along (ord q 0) c).xor (v.val.testBit 0)) = true then 1024 else 0)
    + (if 1 < n.val ∧ ((along (ord q 1) c).xor (v.val.testBit 1)) = true then 512 else 0)
    + (if 2 < n.val ∧ ((along (ord q 2) c).xor (v.val.testBit 2)) = true then 256 else 0)

/-- `v` with bit `t` changed. -/
def tog (v : Fin 8) (t : Fin 4) : Fin 8 := Fin.ofNat 8 (v.val ^^^ (2 ^ t.val))

theorem rowOff_zero : ∀ c q v, rowOff c q v 0 = 0 := by decide +kernel
theorem rowOff_le : ∀ c q v n, rowOff c q v n + rows n ≤ 2048 := by decide +kernel
theorem rowOff_split : ∀ c q v, ∀ n : Fin 3,
    (rowOff c q v n.succ = rowOff c q v n.castSucc ∧ rowOff c q (tog v n.castSucc) n.succ = rowOff c q v n.castSucc + rows n.succ)
      ∨ (rowOff c q v n.succ = rowOff c q v n.castSucc + rows n.succ ∧ rowOff c q (tog v n.castSucc) n.succ = rowOff c q v n.castSucc) := by
  decide +kernel
theorem rows_split : ∀ n : Fin 3, rows n.castSucc = rows n.succ + rows n.succ := by decide
theorem rowOff_nbr : ∀ c q v, ∀ t n : Fin 4, t < n → rowOff (nbr q t c) q v n = rowOff c q (tog v t) n := by decide +kernel
theorem rowOff_nbr_last : ∀ c q v n, rowOff (nbr q 3 c) q v n = rowOff c q v n := by decide +kernel

abbrev OIdx : Type := S2048x1024.Idx
abbrev RIdx : Type := S8x4x1024x128.Idx

/-- The piece of strip `q`. -/
def R (c : Dev nD) (q v : Fin 8) (n : Fin 4) : Finset OIdx :=
  Finset.univ.filter fun i => (rowOff c q v n ≤ (i 0).val ∧ (i 0).val < rowOff c q v n + rows n) ∧ 128 * q.val ≤ (i 1).val ∧ (i 1).val < 128 * q.val + 128

theorem mem_R {c : Dev nD} {q v : Fin 8} {n : Fin 4} {i : OIdx} :
    i ∈ R c q v n ↔ (rowOff c q v n ≤ (i 0).val ∧ (i 0).val < rowOff c q v n + rows n) ∧ 128 * q.val ≤ (i 1).val ∧ (i 1).val < 128 * q.val + 128 := by
  unfold R; rw [Finset.mem_filter]; exact ⟨fun h => h.2, fun h => ⟨Finset.mem_univ _, h⟩⟩

theorem R_split (c : Dev nD) (q v : Fin 8) (n : Fin 3) :
    R c q v n.castSucc = R c q v n.succ ∪ R c q (tog v n.castSucc) n.succ := by
  ext i; rw [Finset.mem_union, mem_R, mem_R, mem_R]
  have h := rowOff_split c q v n; have h' := rows_split n
  omega

theorem R_disj (c : Dev nD) (q v : Fin 8) (n : Fin 3) : Disjoint (R c q v n.succ) (R c q (tog v n.castSucc) n.succ) := by
  rw [Finset.disjoint_left]; intro i; rw [mem_R, mem_R]
  have h := rowOff_split c q v n
  omega

theorem R_nbr (c : Dev nD) (q v : Fin 8) {t n : Fin 4} (h : t < n) : R (nbr q t c) q v n = R c q (tog v t) n := by
  ext i; rw [mem_R, mem_R, rowOff_nbr c q v t n h]

theorem R_last (c : Dev nD) (q v : Fin 8) (n : Fin 4) : R (nbr q 3 c) q v n = R c q v n := by
  ext i; rw [mem_R, mem_R, rowOff_nbr_last]

/-- The piece sent in step `t`: the half not kept, or in the last step the whole piece. -/
def sendv (t : Fin 4) : Fin 8 := (![1, 2, 4, 0] : Fin 4 → Fin 8) t
/-- The number of halvings after step `t`. -/
def nn (t : Fin 4) : Fin 4 := (![1, 2, 3, 3] : Fin 4 → Fin 4) t

theorem rowOff_send : ∀ c q t, rowOff c q (sendv t) (nn t) = rowOff (nbr q t c) q 0 (nn t) := by decide +kernel

/-- The landing area of step `t` of strip `q`. -/
def RV (q : Fin 8) (t : Fin 4) : Finset RIdx :=
  Finset.univ.filter fun i => (i 0).val = q.val ∧ (i 1).val = t.val ∧ (i 2).val < rows (nn t)

theorem mem_RV {q : Fin 8} {t : Fin 4} {i : RIdx} : i ∈ RV q t ↔ (i 0).val = q.val ∧ (i 1).val = t.val ∧ (i 2).val < rows (nn t) := by
  unfold RV; rw [Finset.mem_filter]; exact ⟨fun h => h.2, fun h => ⟨Finset.mem_univ _, h⟩⟩

theorem RV_disj {q q' : Fin 8} {t t' : Fin 4} (h : (q, t) ≠ (q', t')) : Disjoint (RV q t) (RV q' t') := by
  rw [Finset.disjoint_left]; intro i; rw [mem_RV, mem_RV]
  rintro ⟨h1, h2, -⟩ ⟨h3, h4, -⟩
  exact h (Prod.ext (Fin.ext (h1.symm.trans h3)) (Fin.ext (h2.symm.trans h4)))

/-! ## The gather's chunks -/

/-- The lowest bit of a chunk's number (0 for chunk 0). -/
def low (u : Fin 8) : Fin 4 := (![0, 0, 1, 0, 2, 0, 1, 0] : Fin 8 → Fin 4) u
/-- The chunk a chunk is made from: its number without the lowest bit. -/
def par (u : Fin 8) : Fin 8 := (![0, 0, 0, 2, 0, 4, 4, 6] : Fin 8 → Fin 8) u

/-- The device that finishes chunk `v` of device `c`'s strip `q`. -/
def src (c : Dev nD) (q v : Fin 8) : Dev nD :=
  (fun d : Dev nD => if v.val.testBit 2 then nbr q 2 d else d)
    ((fun d : Dev nD => if v.val.testBit 1 then nbr q 1 d else d) (if v.val.testBit 0 then nbr q 0 c else c))

theorem src_zero (c : Dev nD) (q : Fin 8) : src c q 0 = c := rfl
theorem src_nbr : ∀ c q u, u ≠ 0 → src (nbr q (low u) c) q u = src c q (par u) := by decide +kernel
theorem low_lt : ∀ u : Fin 8, low u < 3 := by decide
theorem tog_par : ∀ u : Fin 8, u ≠ 0 → tog u (low u) = par u := by decide

/-- The strip of a column. -/
def qOf (i : OIdx) : Fin 8 := Fin.ofNat 8 ((i 1).val / 128)

theorem qOf_of_mem {c : Dev nD} {q v : Fin 8} {n : Fin 4} {i : OIdx} (h : i ∈ R c q v n) : qOf i = q := by
  rw [mem_R] at h
  apply Fin.ext
  show (i 1).val / 128 % 8 = q.val
  have := q.isLt; omega

/-- The chunk of a row. -/
def vOf (c : Dev nD) (i : OIdx) : Fin 8 :=
  Fin.ofNat 8 ((if ((along (ord (qOf i) 0) c).xor ((i 0).val / 1024 % 2 == 1)) = true then 1 else 0)
    + (if ((along (ord (qOf i) 1) c).xor ((i 0).val / 512 % 2 == 1)) = true then 2 else 0)
    + (if ((along (ord (qOf i) 2) c).xor ((i 0).val / 256 % 2 == 1)) = true then 4 else 0))

theorem chunk_row : ∀ (c : Dev nD) (q : Fin 8) (b : Fin 8),
    rowOff c q (Fin.ofNat 8 ((if ((along (ord q 0) c).xor (b.val / 4 % 2 == 1)) = true then 1 else 0)
      + (if ((along (ord q 1) c).xor (b.val / 2 % 2 == 1)) = true then 2 else 0)
      + (if ((along (ord q 2) c).xor (b.val % 2 == 1)) = true then 4 else 0))) 3 = 256 * b.val := by decide +kernel
theorem chunk_inj : ∀ (c : Dev nD) (q v w : Fin 8), rowOff c q v 3 = rowOff c q w 3 → v = w := by decide +kernel
theorem chunk_mul : ∀ (c : Dev nD) (q v : Fin 8), 256 * (rowOff c q v 3 / 256) = rowOff c q v 3 := by decide +kernel

theorem rowOff_vOf (c : Dev nD) (i : OIdx) : rowOff c (qOf i) (vOf c i) 3 = 256 * ((i 0).val / 256) := by
  have hi : (i 0).val < 2048 := (i 0).isLt
  have h := chunk_row c (qOf i) ⟨(i 0).val / 256, by omega⟩
  have e1 : (i 0).val / 256 / 4 = (i 0).val / 1024 := by omega
  have e2 : (i 0).val / 256 / 2 = (i 0).val / 512 := by omega
  simp only [e1, e2] at h
  exact h

/-- Every element lies in exactly one chunk. -/
theorem mem_chunk (c : Dev nD) (q v : Fin 8) (i : OIdx) : i ∈ R c q v 3 ↔ qOf i = q ∧ vOf c i = v := by
  constructor
  · intro h
    have hq := qOf_of_mem h
    refine ⟨hq, chunk_inj c q _ _ ?_⟩
    have hr := rowOff_vOf c i
    rw [hq] at hr
    rw [mem_R] at h
    have hm := chunk_mul c q v
    have h3 : rows 3 = 256 := rfl
    omega
  · rintro ⟨rfl, rfl⟩
    rw [mem_R, rowOff_vOf]
    have hi : (i 1).val < 1024 := (i 1).isLt
    have h3 : rows 3 = 256 := rfl
    have hq : (qOf i).val = (i 1).val / 128 := by
      show (i 1).val / 128 % 8 = _
      omega
    omega

/-! ## The kernel's views -/

/-- The place in the output at a row and a column. -/
def at2 (r k : ℕ) : OIdx := fun a => match a with
  | ⟨0, _⟩ => ⟨r % 2048, Nat.mod_lt _ (by decide)⟩
  | ⟨1, _⟩ => ⟨k % 1024, Nat.mod_lt _ (by decide)⟩

theorem at2_self (i : OIdx) : at2 (i 0).val (i 1).val = i := by
  funext a
  match a with
  | ⟨0, _⟩ => exact Fin.ext (Nat.mod_eq_of_lt (i 0).isLt)
  | ⟨1, _⟩ => exact Fin.ext (Nat.mod_eq_of_lt (i 1).isLt)

theorem ext2 {i j : OIdx} (h0 : (i 0).val = (j 0).val) (h1 : (i 1).val = (j 1).val) : i = j := by
  rw [← at2_self i, ← at2_self j, h0, h1]

/-- The rectangle the kernel's accesses to a piece go through. -/
abbrev oRect (N : ℕ) (off : Fin 2 → ℕ) (inb : ∀ a, off a + (⟨2, ![N, 128]⟩ : Shape).size a ≤ S2048x1024.size a) : Rect S2048x1024 :=
  Rect.unit (s := S2048x1024) off (⟨2, ![N, 128]⟩ : Shape).size inb

theorem oRect_set {N : ℕ} {off : Fin 2 → ℕ} {inb} {c : Dev nD} {q v : Fin 8} {n : Fin 4} (hN : N = rows n)
    (hoff : off = ![rowOff c q v n, 128 * q.val]) : (oRect N off inb).set = R c q v n := by
  subst hoff hN
  ext i; rw [Rect.mem_set_unit, mem_R]
  exact ⟨fun h => ⟨h 0, h 1⟩, fun h a => match a with | ⟨0, _⟩ => h.1 | ⟨1, _⟩ => h.2⟩

abbrev rRect (N : ℕ) (off : Fin 4 → ℕ) (inb : ∀ a, off a + (⟨4, ![1, 1, N, 128]⟩ : Shape).size a ≤ S8x4x1024x128.size a) : Rect S8x4x1024x128 :=
  Rect.unit (s := S8x4x1024x128) off (⟨4, ![1, 1, N, 128]⟩ : Shape).size inb

theorem rRect_set {N : ℕ} {off : Fin 4 → ℕ} {inb} {q : Fin 8} {t : Fin 4} (hN : N = rows (nn t))
    (hoff : off = ![q.val, t.val, 0, 0]) : (rRect N off inb).set = RV q t := by
  subst hoff hN
  ext i; rw [Rect.mem_set_unit, mem_RV]
  constructor
  · intro h
    have h0 : q.val ≤ (i 0).val ∧ (i 0).val < q.val + 1 := h 0
    have h1 : t.val ≤ (i 1).val ∧ (i 1).val < t.val + 1 := h 1
    have h2 : 0 ≤ (i 2).val ∧ (i 2).val < 0 + rows (nn t) := h 2
    omega
  · rintro ⟨h0, h1, h2⟩ a
    match a with
    | ⟨0, _⟩ => show q.val ≤ (i 0).val ∧ (i 0).val < q.val + 1; omega
    | ⟨1, _⟩ => show t.val ≤ (i 1).val ∧ (i 1).val < t.val + 1; omega
    | ⟨2, _⟩ => show 0 ≤ (i 2).val ∧ (i 2).val < 0 + rows (nn t); omega
    | ⟨3, _⟩ =>
      have h3 : (i 3).val < 128 := (i 3).isLt
      show 0 ≤ (i 3).val ∧ (i 3).val < 0 + 128; omega

end Cert.Exchange

end
-- ==== Proof.Sched.lean ====
/-
  The plan of the exchange: the semaphore cells, what each arrival hands over, the steps of a
  strip with what each takes and gives, and the order in which the kernel runs the strips' steps.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphore cells -/

/-- A strip's semaphores: the send and receive cells of the four summing steps and of the eight chunks of the
    gather, and the spare ones of the two arrays the gather's come from. -/
inductive CK where
  | rsS (t : Fin 4) | rsR (t : Fin 4) | agS (u : Fin 8) | agR (u : Fin 8) | idS (u : Fin 8) | idR (u : Fin 8)
deriving DecidableEq

def CK.equiv : ((Fin 4 ⊕ Fin 4) ⊕ (Fin 8 ⊕ Fin 8)) ⊕ (Fin 8 ⊕ Fin 8) ≃ CK where
  toFun
    | .inl (.inl (.inl t)) => .rsS t | .inl (.inl (.inr t)) => .rsR t | .inl (.inr (.inl u)) => .agS u
    | .inl (.inr (.inr u)) => .agR u | .inr (.inl u) => .idS u | .inr (.inr u) => .idR u
  invFun
    | .rsS t => .inl (.inl (.inl t)) | .rsR t => .inl (.inl (.inr t)) | .agS u => .inl (.inr (.inl u))
    | .agR u => .inl (.inr (.inr u)) | .idS u => .inr (.inl u) | .idR u => .inr (.inr u)
  left_inv := by rintro (((_ | _) | (_ | _)) | (_ | _)) <;> rfl
  right_inv := by rintro (_ | _ | _ | _ | _ | _) <;> rfl

instance : Fintype CK := Fintype.ofEquiv _ CK.equiv

/-- A device's cells: the barrier and the strips' semaphores. -/
abbrev Key : Type := Option (Fin 8 × CK)

/-- Whether the exchange uses the cell. -/
def live : CK → Bool
  | .rsS _ => true | .rsR _ => true | .agS u => u ≠ 0 | .agR u => u ≠ 0 | .idS _ => false | .idR _ => false

/-- The credit of a transfer through the cell. -/
def amt : CK → ℕ
  | .rsS t => 8 * rows (nn t) | .rsR t => 8 * rows (nn t) | _ => 2048

theorem amt_pos : ∀ k, 0 < amt k := by decide

def dnum (q : Fin 8) : CK → ℕ
  | .rsS t => 2 + 4 * q.val + t.val | .rsR t => 34 + 4 * q.val + t.val
  | .agS u => 66 + 16 * q.val + u.val | .idS u => 74 + 16 * q.val + u.val
  | .agR u => 194 + 16 * q.val + u.val | .idR u => 202 + 16 * q.val + u.val

theorem dnum_lt : ∀ q k, dnum q k < sig.nDmaSem := by decide +kernel

def dsem (q : Fin 8) (k : CK) : DmaSem sig := ⟨dnum q k, dnum_lt q k⟩

/-- The cell of a DMA semaphore (the two staging semaphores have none). -/
def unsem (s : DmaSem sig) : Key :=
  if s.val < 2 then none
  else if s.val < 34 then some (Fin.ofNat 8 ((s.val - 2) / 4), .rsS (Fin.ofNat 4 ((s.val - 2) % 4)))
  else if s.val < 66 then some (Fin.ofNat 8 ((s.val - 34) / 4), .rsR (Fin.ofNat 4 ((s.val - 34) % 4)))
  else if s.val < 194 then
    some (Fin.ofNat 8 ((s.val - 66) / 16), if (s.val - 66) % 16 < 8 then .agS (Fin.ofNat 8 ((s.val - 66) % 16)) else .idS (Fin.ofNat 8 ((s.val - 66) % 16 - 8)))
  else
    some (Fin.ofNat 8 ((s.val - 194) / 16), if (s.val - 194) % 16 < 8 then .agR (Fin.ofNat 8 ((s.val - 194) % 16)) else .idR (Fin.ofNat 8 ((s.val - 194) % 16 - 8)))

theorem unsem_dsem : ∀ q k, unsem (dsem q k) = some (q, k) := by decide +kernel

/-- The runtime's barrier semaphore. -/
abbrev barS : Sem sig := (SemArray.scalar (sig.barrier 0 rfl) : Sems sig S_).sem

def csem : Key → SemLoc sig
  | none => .reg barS
  | some (q, k) => .dma (dsem q k)

def key : SemLoc sig → Option Key
  | .reg s => if s = barS then some none else none
  | .dma s => (unsem s).map some

theorem key_csem (k : Key) : key (csem k) = some k := by
  match k with
  | none => show (if barS = barS then some none else none) = _; rw [if_pos rfl]
  | some (q, k) => show (unsem (dsem q k)).map some = _; rw [unsem_dsem]; rfl

theorem csem_injective : Function.Injective csem := fun a b h => by
  have := congrArg key h; rw [key_csem, key_csem] at this; exact Option.some.inj this

abbrev cell (c : Dev nD) (k : Key) : GSem nD τ sig := ((c : Thread nD τ), csem k)
abbrev dcell (c : Dev nD) (q : Fin 8) (k : CK) : GSem nD τ sig := ((c : Thread nD τ), .dma (dsem q k))
abbrev barCell (c : Dev nD) : GSem nD τ sig := ((c : Thread nD τ), .reg barS)

/-! ## Contents -/

/-- What the devices' blocks hold. -/
abbrev Blocks (F : FTy → Type) : Type := Dev nD → OIdx → Elt F .bf16

/-- The partial sums: after a step a device's element is its own partial sum plus the one of the device it exchanged
    with. -/
def V (X : Blocks F) : ℕ → Blocks F
  | 0 => X
  | t + 1 => fun c i => FloatOps.addf (F := F) (φ := .bf16) (V X t c i) (V X t (nbr (qOf i) (Fin.ofNat 4 t) c) i)

/-- What lands in the landing area of step `t` of strip `q`: the neighbour's partial sums of the rows kept. -/
def RC (X : Blocks F) (c : Dev nD) (q : Fin 8) (t : Fin 4) : RIdx → Elt F .bf16 :=
  fun i => V X t.val (nbr q t c) (at2 (rowOff c q 0 (nn t) + (i 2).val) (128 * q.val + (i 3).val))

/-- The kernel's result on device `c`. -/
def OUT (X : Blocks F) (c : Dev nD) : OIdx → Elt F .bf16 := fun i => V X 4 (src c (qOf i) (vOf c i)) i

abbrev xM : Memref sig .tc .vmem S2048x1024 .bf16 := Memref.whole cc0_stg0_0
abbrev oM : Memref sig .tc .vmem S2048x1024 .bf16 := Memref.whole cc0_stg1_0
abbrev rM : Memref sig .tc .vmem S8x4x1024x128 .bf16 := Memref.whole cc0_scratch0

def xPts (c : Dev nD) (f : OIdx → Elt F .bf16) : sProp 𝕄 :=
  (xM : Memref sig .tc .vmem S2048x1024 .bf16).view.loc (c : Thread nD τ) ↦[Finset.univ]{fullShare} f
def oPts (c : Dev nD) (S : Finset OIdx) (q : PosShare TreeShare) (f : OIdx → Elt F .bf16) : sProp 𝕄 :=
  (oM : Memref sig .tc .vmem S2048x1024 .bf16).view.loc (c : Thread nD τ) ↦[S]{q} f
def rPts (c : Dev nD) (S : Finset RIdx) (f : RIdx → Elt F .bf16) : sProp 𝕄 :=
  (rM : Memref sig .tc .vmem S8x4x1024x128 .bf16).view.loc (c : Thread nD τ) ↦[S]{fullShare} f

omit [FloatOps F] in
instance oPts_storable (c : Dev nD) (S q f) : BI.Storable (upEmb : UEmb _ 𝕄) (oPts (F := F) c S q f) := by unfold oPts; infer_instance
omit [FloatOps F] in
instance rPts_storable (c : Dev nD) (S f) : BI.Storable (upEmb : UEmb _ 𝕄) (rPts (F := F) c S f) := by unfold rPts; infer_instance

/-! ## What a strip holds -/

/-- The things a device holds for a strip. -/
inductive Atom where
  /-- A piece of the output, holding anything. -/
  | raw (v : Fin 8) (n : Fin 4)
  /-- A piece of the output, holding the partial sums of step `t`. -/
  | val (t : Fin 4) (v : Fin 8) (n : Fin 4)
  /-- The finished chunk that chunk `u` is made from, at the share chunk `u` is sent with. -/
  | fin (u : Fin 8)
  /-- The finished chunk `u`. -/
  | leaf (u : Fin 8)
  /-- The place of chunk `u` in the output of the device it is sent to. -/
  | peer (u : Fin 8)
  /-- The neighbour's landing area of step `t`. -/
  | prs (t : Fin 4)
  /-- The own landing area of step `t`; whether it holds what was sent. -/
  | rb (t : Fin 4) (b : Bool)
  /-- The right to signal a cell. -/
  | tk (k : CK)
  /-- The claim on a cell's credit. -/
  | cr (k : CK)
  /-- The position of the own cell. -/
  | pos (k : CK)
  /-- The own cell's counter, closed at zero. -/
  | z (k : CK)
deriving DecidableEq

/-- The share chunk `u` is sent with: a chunk sent twice or three times is divided. -/
def sh (u : Fin 8) : PosShare TreeShare :=
  if u = 4 ∨ u = 6 then fullShare.left
  else if u = 5 then fullShare.right
  else if u = 2 then fullShare.right.left
  else if u = 1 then fullShare.right.right
  else fullShare

/-- The device whose cell a token is for: the own for a send, the receiver's for an arrival. -/
def tokDev (c : Dev nD) (q : Fin 8) : CK → Dev nD
  | .rsR t => nbr q t c | .agR u => nbr q (low u) c | _ => c

variable (X : Blocks F)

def den (c : Dev nD) (q : Fin 8) : Atom → sProp 𝕄
  | .raw v n => iprop(∃ f, oPts c (R c q v n) fullShare f)
  | .val t v n => oPts c (R c q v n) fullShare (V X t.val c)
  | .fin u => oPts c (R c q (par u) 3) (sh u) (V X 4 (src c q (par u)))
  | .leaf u => oPts c (R c q u 3) fullShare (V X 4 (src c q u))
  | .peer u => iprop(∃ f, oPts (nbr q (low u) c) (R c q (par u) 3) fullShare f)
  | .prs t => iprop(∃ f, rPts (nbr q t c) (RV q t) f)
  | .rb t true => rPts c (RV q t) (RC X c q t)
  | .rb t false => iprop(∃ f, rPts c (RV q t) f)
  | .tk k => dutyTok ER (dcell (tokDev c q k) q k) 0 (0 : Fin 4)
  | .cr k => cred (tallyAt (dcell c q k) () (amt k))
  | .pos k => atPos ER (dcell c q k) 0 ∅ 0
  | .z k => semVal (dcell c q k) 0

/-- Memory held, as opposed to tokens. -/
def isMem : Atom → Bool
  | .tk _ => false | .cr _ => false | .pos _ => false | .z _ => false | _ => true

/-- What a cell's arrival hands over. -/
def hands : CK → Finset Atom
  | .rsR t => (![{.rb 0 true, .peer 1, .peer 3, .peer 5, .peer 7}, {.rb 1 true, .peer 2, .peer 6}, {.rb 2 true, .peer 4}, {.rb 3 true}] : Fin 4 → Finset Atom) t
  | .rsS t => if t = 3 then {.val 3 0 3} else ∅
  | .agR u => if u = 2 then {.fin 3} else if u = 4 then {.fin 6, .fin 5} else if u = 6 then {.fin 7} else {.leaf u}
  | .agS u => {.fin u}
  | .idS _ => ∅ | .idR _ => ∅

theorem hands_mem : ∀ k, ∀ a ∈ hands k, isMem a = true := by decide

def memDen (c : Dev nD) (q : Fin 8) (a : Atom) : sProp 𝕄 := if isMem a = true then den X c q a else iprop(emp)

instance memDen_storable (c : Dev nD) (q : Fin 8) (a : Atom) : BI.Storable (upEmb : UEmb _ 𝕄) (memDen X c q a) := by
  unfold memDen
  rcases a with _ | _ | _ | _ | _ | _ | ⟨_, _ | _⟩ | _ | _ | _ | _ <;> simp only [isMem, if_true, Bool.false_eq_true, if_false, den] <;> infer_instance

theorem memDen_hands (c : Dev nD) (q : Fin 8) (k : CK) : bigSep (hands k) (memDen X c q) = bigSep (hands k) (den X c q) :=
  bigSep_congr fun a ha => if_pos (hands_mem k a ha)

/-- What the device across direction `d` hands over at the barrier: its landing areas of the steps in that direction. -/
def barPay (c : Dev nD) (d : Fin 4) : sProp 𝕄 :=
  bigSep Finset.univ fun q : Fin 8 => iprop(∃ f, rPts (flip d c) (RV q (inv q d)) f)

omit [FloatOps F] in
instance barPay_storable (c : Dev nD) (d : Fin 4) : BI.Storable (upEmb : UEmb _ 𝕄) (barPay (F := F) c d) := by unfold barPay; infer_instance

/-- One round: the barrier has a duty of one unit for each direction, a transfer's cell one duty of the transfer's credit. -/
def Rd : Rounds.Schedule (GSem nD τ sig) (Fin 4) 𝕄 where
  duties g r := if r = 0 ∧ g.1.2 = .tc then
      (match key g.2 with | some none => Finset.univ | some (some (_, k)) => if live k = true then {0} else ∅ | none => ∅) else ∅
  unitless _ := False
  amount g _ _ := match key g.2 with | some (some (_, k)) => amt k | _ => 1
  payload g _ d := match key g.2 with
    | some none => barPay g.1.1 d
    | some (some (q, k)) => bigSep (hands k) (memDen X g.1.1 q)
    | none => iprop(emp)
  amount_pos g _ _ _ := by
    rcases key g.2 with _ | _ | ⟨_, k⟩
    · exact Nat.one_pos
    · exact Nat.one_pos
    · exact amt_pos k

instance Rd_payload_storable (g : GSem nD τ sig) (r : ℕ) (d : Fin 4) : BI.Storable (upEmb : UEmb _ 𝕄) ((Rd (F := F) X).payload g r d) := by
  dsimp only [Rd]; split <;> infer_instance

section Facts
variable (c : Dev nD) (q : Fin 8) (k : CK)

theorem key_d : key (.dma (dsem q k)) = some (some (q, k)) := key_csem (some (q, k))
theorem key_b : key (.reg barS) = some none := key_csem none

theorem duties_bar : (Rd X).duties (barCell c) 0 = Finset.univ := by
  dsimp only [Rd]; rw [if_pos ⟨rfl, rfl⟩, key_b]
theorem duties_d (h : live k = true) : (Rd X).duties (dcell c q k) 0 = {0} := by
  dsimp only [Rd]; rw [if_pos ⟨rfl, rfl⟩, key_d]; exact if_pos h
theorem duties_idle (h : live k = false) (r : ℕ) : (Rd X).duties (dcell c q k) r = ∅ := by
  dsimp only [Rd]; rw [key_d]; dsimp only; rw [h]; simp
theorem duties_later (g : GSem nD τ sig) : ∀ r, 1 ≤ r → (Rd X).duties g r = ∅ :=
  fun r hr => by dsimp only [Rd]; rw [if_neg fun h => by omega]

theorem amount_bar (r : ℕ) (d : Fin 4) : (Rd X).amount (barCell c) r d = 1 := by dsimp only [Rd]; rw [key_b]
theorem amount_d (r : ℕ) (d : Fin 4) : (Rd X).amount (dcell c q k) r d = amt k := by dsimp only [Rd]; rw [key_d]

theorem expect_bar : (Rd X).expect (barCell c) 0 = 4 := by
  unfold Schedule.expect Schedule.amountOf
  rw [duties_bar, Finset.sum_congr rfl fun d _ => amount_bar X c 0 d, Finset.sum_const]; rfl
theorem expect_d (h : live k = true) : (Rd X).expect (dcell c q k) 0 = amt k := by
  unfold Schedule.expect Schedule.amountOf; rw [duties_d X c q k h, Finset.sum_singleton, amount_d]

theorem payload_bar (r : ℕ) (d : Fin 4) : (Rd X).payload (barCell c) r d = barPay c d := by dsimp only [Rd]; rw [key_b]
theorem payload_d (r : ℕ) (d : Fin 4) : (Rd X).payload (dcell c q k) r d = bigSep (hands k) (den X c q) := by
  dsimp only [Rd]; rw [key_d]; exact memDen_hands X c q k

theorem rest_bar : bigSep ((Rd X).duties (barCell c) 0 \ ∅) (fun d => (Rd X).payload (barCell c) 0 d) = bigSep Finset.univ (barPay c) := by
  rw [Finset.sdiff_empty, duties_bar]; exact bigSep_congr fun d _ => payload_bar X c 0 d
theorem rest_d (h : live k = true) :
    bigSep ((Rd X).duties (dcell c q k) 0 \ ∅) (fun d => (Rd X).payload (dcell c q k) 0 d) = bigSep (hands k) (den X c q) := by
  rw [Finset.sdiff_empty, duties_d X c q k h, bigSep_singleton, payload_d]

end Facts

/-! ## The steps of a strip -/

inductive Op where
  | storeSend | bar | rsSend (t : Fin 4) | storeKept | wait (k : CK) | sum (t : Fin 4) | agSend (u : Fin 8)
deriving DecidableEq

/-- A strip's steps in order. -/
def ops : List Op :=
  [.storeSend, .bar, .rsSend 0, .storeKept, .wait (.rsR 0), .sum 0, .rsSend 1, .wait (.rsR 1), .sum 1, .rsSend 2, .wait (.rsR 2), .sum 2,
    .rsSend 3, .wait (.rsR 3), .wait (.rsS 3), .sum 3, .agSend 4, .agSend 2, .agSend 1, .wait (.agR 4), .agSend 6, .agSend 5,
    .wait (.agR 2), .agSend 3, .wait (.agR 6), .agSend 7, .wait (.agR 1), .wait (.agR 5), .wait (.agR 3), .wait (.agR 7),
    .wait (.rsS 0), .wait (.rsS 1), .wait (.rsS 2), .wait (.agS 4), .wait (.agS 2), .wait (.agS 1), .wait (.agS 6), .wait (.agS 5),
    .wait (.agS 3), .wait (.agS 7)]

/-- The piece sent in step `t`, as it is held before. -/
def sent (t : Fin 4) : Atom := (![.val 0 1 1, .val 1 0 1, .val 2 0 2, .val 3 0 3] : Fin 4 → Atom) t
/-- The half kept when step `t` divides the piece it sends from. -/
def kept (t : Fin 4) : Finset Atom := (![∅, {.val 1 0 2}, {.val 2 0 3}, ∅] : Fin 4 → Finset Atom) t

/-- What a step takes. -/
def pre : Op → Finset Atom
  | .storeSend => {.raw 0 0}
  | .bar => ∅
  | .rsSend t => {sent t, .prs t, .tk (.rsS t), .tk (.rsR t)}
  | .storeKept => {.raw 0 1}
  | .wait k => {.cr k, .pos k}
  | .sum t => {.val t 0 (nn t), .rb t true}
  | .agSend u => {.fin u, .peer u, .tk (.agS u), .tk (.agR u)}

/-- What a step gives. -/
def post : Op → Finset Atom
  | .storeSend => {.raw 0 1, .val 0 1 1}
  | .bar => {.prs 0, .prs 1, .prs 2, .prs 3}
  | .rsSend t => {.cr (.rsS t)} ∪ kept t
  | .storeKept => {.val 0 0 1}
  | .wait k => {.z k} ∪ hands k
  | .sum t => if t = 3 then {.fin 4, .fin 2, .fin 1, .rb 3 true} else {.val (t + 1) 0 (nn t), .rb t true}
  | .agSend u => {.cr (.agS u)}

def liveKeys : Finset CK := Finset.univ.filter fun k => live k = true
/-- The cells whose credit a device is owed from the start. -/
def recvKeys : Finset CK := {.rsR 0, .rsR 1, .rsR 2, .rsR 3, .agR 1, .agR 2, .agR 3, .agR 4, .agR 5, .agR 6, .agR 7}

/-- What a strip holds at the start. -/
def S0 : Finset Atom := ({.raw 0 0} ∪ liveKeys.image .tk) ∪ (recvKeys.image .cr ∪ liveKeys.image .pos)
/-- What a strip holds at the end. -/
def S40 : Finset Atom :=
  ({.fin 1, .fin 2, .fin 3, .fin 4, .fin 5, .fin 6, .fin 7} ∪ {.leaf 1, .leaf 3, .leaf 5, .leaf 7})
    ∪ ({.rb 0 true, .rb 1 true, .rb 2 true, .rb 3 true} ∪ liveKeys.image .z)

def upd (s : Finset Atom) (o : Op) : Finset Atom := (s \ pre o) ∪ post o

def Runs : List Op → Finset Atom → Prop
  | [], s => s = S40
  | o :: os, s => (pre o ⊆ s ∧ Disjoint (post o) (s \ pre o)) ∧ Runs os (upd s o)

instance runsDec : ∀ os s, Decidable (Runs os s)
  | [], s => inferInstanceAs (Decidable (s = S40))
  | o :: os, s => @instDecidableAnd (pre o ⊆ s ∧ Disjoint (post o) (s \ pre o)) _ inferInstance (runsDec os _)

theorem runs_ops : Runs ops S0 := by decide +kernel

end Cert.Exchange

end
-- ==== Proof.State.lean ====
/-
  The state of a device's run between two steps: what its strips hold, what it still owes, and the
  rules for opening the state at a step and closing it after.
-/
module

public import proofs.«01_k».proof.Proof.Sched

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The order of the run -/

/-- The strip of each step of the run, in program order; 8 is the wait at the barrier, a step of every strip. -/
def order : List ℕ :=
  [7, 6, 3, 4, 5, 0, 1, 2, 8, 7, 6, 3, 4, 5, 0, 1, 2, 0, 1, 2, 3, 4, 5, 6, 7, 0, 0, 0, 1, 1, 1, 2, 2, 2, 3, 3, 3,
   4, 4, 4, 5, 5, 5, 6, 6, 6, 7, 7, 7, 3, 3, 3, 4, 4, 4, 6, 6, 6, 0, 0, 0, 1, 1, 1, 7, 7, 7, 2, 2, 2, 5, 5, 5, 7,
   7, 7, 6, 6, 6, 0, 0, 0, 3, 3, 3, 5, 5, 5, 1, 1, 1, 2, 2, 2, 4, 4, 4, 5, 5, 5, 5, 5, 5, 2, 2, 2, 2, 2, 2, 1, 1,
   1, 1, 1, 1, 4, 4, 4, 4, 4, 4, 7, 7, 7, 7, 7, 7, 0, 0, 0, 0, 0, 0, 3, 3, 3, 3, 3, 3, 6, 6, 6, 6, 6, 6, 7, 7, 7,
   6, 6, 6, 0, 0, 0, 3, 3, 3, 5, 5, 5, 1, 1, 1, 2, 2, 2, 4, 4, 4, 3, 3, 4, 4, 6, 6, 0, 0, 1, 1, 7, 7, 2, 2, 5, 5,
   3, 3, 4, 4, 6, 6, 0, 0, 1, 1, 7, 7, 2, 2, 5, 5, 0, 1, 2, 3, 4, 5, 6, 7, 0, 1, 2, 3, 4, 5, 6, 7, 0, 1, 2, 3, 4,
   5, 6, 7, 0, 1, 2, 3, 4, 5, 6, 7, 0, 1, 2, 3, 4, 5, 6, 7, 3, 4, 6, 0, 1, 7, 2, 5, 7, 6, 0, 3, 5, 1, 2, 4, 5, 5,
   5, 2, 2, 2, 1, 1, 1, 4, 4, 4, 7, 7, 7, 0, 0, 0, 3, 3, 3, 6, 6, 6, 7, 7, 6, 6, 0, 0, 3, 3, 5, 5, 1, 1, 2, 2, 4,
   4, 3, 4, 6, 0, 1, 7, 2, 5, 3, 4, 6, 0, 1, 7, 2, 5]

/-- How many of its steps a strip has run after `p` steps of the run. -/
def pc (p : ℕ) (q : Fin 8) : ℕ := ((order.take p).filter fun x => x = q.val ∨ x = 8).length

def qAt (p : ℕ) : Fin 8 := Fin.ofNat 8 (order.getD p 0)
def opAt (p : ℕ) : Option (Fin 8 × Op) :=
  if order.getD p 8 < 8 then (ops[pc p (qAt p)]?).map fun o => (qAt p, o) else none

def tAt (p : ℕ) : Fin 4 := match opAt p with | some (_, .rsSend t) => t | some (_, .sum t) => t | _ => 0
def uAt (p : ℕ) : Fin 8 := match opAt p with | some (_, .agSend u) => u | _ => 0
def kAt (p : ℕ) : CK := match opAt p with | some (_, .wait k) => k | _ => .idS 0

theorem pc_succ (p : ℕ) (q : Fin 8) :
    pc (p + 1) q = pc p q + if (order.getD p 9 = q.val ∨ order.getD p 9 = 8) then 1 else 0 := by
  unfold pc
  rw [List.take_succ, List.filter_append, List.length_append, List.getD_eq_getElem?_getD]
  rcases h : order[p]? with _ | x
  · rw [if_neg (by have := q.isLt; simp; omega)]; simp
  · by_cases hx : x = q.val ∨ x = 8
    · simp [hx]
    · simp [hx]

theorem opAt_spec {p : ℕ} {q : Fin 8} {o : Op} (h : opAt p = some (q, o)) :
    ops[pc p q]? = some o ∧ pc (p + 1) q = pc p q + 1 ∧ ∀ q' : Fin 8, q' ≠ q → pc (p + 1) q' = pc p q' := by
  unfold opAt at h
  split at h
  case isFalse => exact absurd h (by simp)
  case isTrue hlt =>
    rw [Option.map_eq_some_iff] at h
    obtain ⟨o', ho, he⟩ := h
    obtain ⟨rfl, rfl⟩ := Prod.ext_iff.mp he
    rw [List.getD_eq_getElem?_getD] at hlt
    have hq : order.getD p 9 = (qAt p).val := by
      unfold qAt
      rw [List.getD_eq_getElem?_getD, List.getD_eq_getElem?_getD]
      rcases hp : order[p]? with _ | x
      · rw [hp] at hlt; simp at hlt
      · rw [hp] at hlt; exact (Nat.mod_eq_of_lt hlt).symm
    refine ⟨ho, ?_, fun q' hne => ?_⟩
    · rw [pc_succ, if_pos (.inl hq)]
    · rw [pc_succ, hq, if_neg, Nat.add_zero]
      rintro (h1 | h1)
      · exact hne (Fin.ext h1.symm)
      · have := (qAt p).isLt; omega

/-- What a strip holds after `k` of its steps. -/
def held (k : ℕ) : Finset Atom := (ops.take k).foldl upd S0

theorem runs_at : ∀ (os : List Op) (s : Finset Atom), Runs os s → ∀ (k : ℕ) (o : Op), os[k]? = some o →
    (pre o ⊆ (os.take k).foldl upd s ∧ Disjoint (post o) ((os.take k).foldl upd s \ pre o))
      ∧ (os.take (k + 1)).foldl upd s = upd ((os.take k).foldl upd s) o
  | [], _, _, k, o, h => by simp at h
  | o' :: os, s, hr, 0, o, h => by
    obtain rfl : o' = o := by simpa using h
    exact ⟨hr.1, rfl⟩
  | o' :: os, s, hr, k + 1, o, h => by
    have := runs_at os (upd s o') hr.2 k o (by simpa using h)
    exact this

theorem runs_end : ∀ (os : List Op) (s : Finset Atom), Runs os s → os.foldl upd s = S40
  | [], s, h => h
  | o :: os, s, h => runs_end os (upd s o) h.2

theorem held_zero : held 0 = S0 := rfl
theorem held_end : held 40 = S40 := runs_end ops S0 runs_ops

variable (X : Blocks F)

theorem held_step (c : Dev nD) (q : Fin 8) {k : ℕ} {o : Op} (h : ops[k]? = some o) :
    bigSep (held k) (den X c q) = iprop(bigSep (pre o) (den X c q) ∗ bigSep (held k \ pre o) (den X c q))
      ∧ bigSep (held (k + 1)) (den X c q) = iprop(bigSep (held k \ pre o) (den X c q) ∗ bigSep (post o) (den X c q)) := by
  obtain ⟨⟨h1, h2⟩, h3⟩ := runs_at ops S0 runs_ops k o h
  refine ⟨bigSep_sdiff_split h1, ?_⟩
  unfold held; rw [h3]; unfold upd
  exact bigSep_union h2.symm

/-- The strips of a device after `p` steps. -/
def strips (c : Dev nD) (p : ℕ) : sProp 𝕄 := bigSep Finset.univ fun q : Fin 8 => bigSep (held (pc p q)) (den X c q)

/-- What a step does not touch. -/
def stripsRest (c : Dev nD) (p : ℕ) (q : Fin 8) (o : Op) : sProp 𝕄 :=
  iprop(bigSep (held (pc p q) \ pre o) (den X c q) ∗ bigSep (Finset.univ.erase q) fun q' => bigSep (held (pc p q')) (den X c q'))

theorem strips_open (c : Dev nD) {p : ℕ} {q : Fin 8} {o : Op} (h : opAt p = some (q, o)) :
    strips X c p ⊢ iprop(bigSep (pre o) (den X c q) ∗ stripsRest X c p q o) := by
  unfold strips stripsRest
  rw [bigSep_univ_at _ q, (held_step X c q (opAt_spec h).1).1]
  iintro ⟨⟨H1, H2⟩, H3⟩
  isplitl [H1]; · iexact H1
  isplitl [H2] <;> iassumption

theorem strips_close (c : Dev nD) {p : ℕ} {q : Fin 8} {o : Op} (h : opAt p = some (q, o)) :
    iprop(bigSep (post o) (den X c q) ∗ stripsRest X c p q o) ⊢ strips X c (p + 1) := by
  unfold strips stripsRest
  rw [bigSep_univ_at _ q, (opAt_spec h).2.1, (held_step X c q (opAt_spec h).1).2,
    bigSep_congr (s := Finset.univ.erase q) (Φ := fun q' => bigSep (held (pc (p + 1) q')) (den X c q')) (Ψ := fun q' => bigSep (held (pc p q')) (den X c q'))
      fun q' hq' => by rw [(opAt_spec h).2.2 q' (Finset.ne_of_mem_erase hq')]]
  iintro ⟨H1, H2, H3⟩
  isplitl [H1 H2]
  · isplitl [H2] <;> iassumption
  iexact H3

theorem pc_bar : ∀ q : Fin 8, pc 8 q = 1 ∧ pc 9 q = 2 := by decide +kernel
theorem pc_zero (q : Fin 8) : pc 0 q = 0 := rfl
theorem pc_end : ∀ q : Fin 8, pc 313 q = 40 := by decide +kernel

theorem strips_bar (c : Dev nD) :
    iprop(strips X c 8 ∗ bigSep Finset.univ fun q : Fin 8 => bigSep (post .bar) (den X c q)) ⊢ strips X c 9 := by
  unfold strips
  rw [← bigSep_sep']
  refine bigSep_mono fun q _ => ?_
  rw [(pc_bar q).1, (pc_bar q).2, (held_step X c q (k := 1) (o := .bar) rfl).2, show pre .bar = ∅ from rfl, Finset.sdiff_empty]
  exact BI.Entails.refl _

/-! ## What a device owes -/

/-- When the transfer into a cell is issued. -/
def sendAt (q : Fin 8) (k : CK) : ℕ :=
  ([[14, 27, 60, 81, 132, 131, 176, 130, 153, 152, 192], [15, 30, 63, 90, 114, 113, 178, 112, 162, 161, 194],
    [16, 33, 69, 93, 108, 107, 182, 106, 165, 164, 198], [11, 36, 51, 84, 138, 137, 170, 136, 156, 155, 186],
    [12, 39, 54, 96, 120, 119, 172, 118, 168, 167, 188], [13, 42, 72, 87, 102, 101, 184, 100, 159, 158, 200],
    [10, 45, 57, 78, 144, 143, 174, 142, 150, 149, 190], [9, 48, 66, 75, 126, 125, 180, 124, 147, 146, 196]].getD q.val []).getD
    (match k with | .rsR t => t.val | .agR u => 3 + u.val | _ => 0) 0

def isSend : Op → Option CK
  | .rsSend t => some (.rsR t) | .agSend u => some (.agR u) | _ => none

theorem sendAt_op : ∀ q, ∀ k ∈ recvKeys, (opAt (sendAt q k)).map (fun x => (x.1, isSend x.2)) = some (q, some k) := by decide +kernel

/-- The transfers still to be issued after `p` steps. -/
def todo (p : ℕ) : Finset (Fin 8 × CK) := (Finset.univ ×ˢ recvKeys).filter fun x => p ≤ sendAt x.1 x.2

def owed (c : Dev nD) (p : ℕ) : CellTallies nD τ sig Unit :=
  ∑ x ∈ todo p, tallyAt (dcell (tokDev c x.1 x.2) x.1 x.2) () (amt x.2)

theorem mem_todo {p : ℕ} {x : Fin 8 × CK} : x ∈ todo p ↔ x.2 ∈ recvKeys ∧ p ≤ sendAt x.1 x.2 := by
  unfold todo; rw [Finset.mem_filter, Finset.mem_product]; simp

theorem todo_other {p : ℕ} {q : Fin 8} {o : Op} (h : opAt p = some (q, o)) (ho : isSend o = none) : todo p = todo (p + 1) := by
  ext ⟨q', k⟩; rw [mem_todo, mem_todo]
  refine and_congr_right fun hk => ⟨fun hle => ?_, fun hle => by omega⟩
  rcases Nat.lt_or_eq_of_le hle with hlt | heq
  · exact hlt
  · exfalso
    have := sendAt_op q' k hk
    rw [← heq, h] at this
    simp only [Option.map_some, ho, Option.some.injEq, Prod.mk.injEq] at this
    exact absurd this.2 (by simp)

theorem todo_send {p : ℕ} {q : Fin 8} {o : Op} {k : CK} (h : opAt p = some (q, o)) (ho : isSend o = some k) (hk : k ∈ recvKeys) (hs : sendAt q k = p) :
    todo p = insert (q, k) (todo (p + 1)) ∧ (q, k) ∉ todo (p + 1) := by
  constructor
  · ext ⟨q', k'⟩; rw [Finset.mem_insert, mem_todo, mem_todo]
    constructor
    · rintro ⟨hk', hle⟩
      rcases Nat.lt_or_eq_of_le hle with hlt | heq
      · exact .inr ⟨hk', hlt⟩
      · left
        have := sendAt_op q' k' hk'
        dsimp only at heq this
        rw [← heq, h] at this
        simp only [Option.map_some, ho, Option.some.injEq, Prod.mk.injEq] at this
        rw [this.1, this.2]
    · rintro (he | ⟨hk', hle⟩)
      · obtain ⟨rfl, rfl⟩ := Prod.ext_iff.mp he
        exact ⟨hk, hs.ge⟩
      · exact ⟨hk', by dsimp only at hle ⊢; omega⟩
  · rw [mem_todo]; dsimp only; omega

theorem owed_other (c : Dev nD) {p : ℕ} {q : Fin 8} {o : Op} (h : opAt p = some (q, o)) (ho : isSend o = none) : owed c p = owed c (p + 1) := by
  unfold owed; rw [todo_other h ho]

theorem owed_send (c : Dev nD) {p : ℕ} {q : Fin 8} {o : Op} {k : CK} (h : opAt p = some (q, o)) (ho : isSend o = some k) (hk : k ∈ recvKeys) (hs : sendAt q k = p) :
    owed c p = owed c (p + 1) + tallyAt (dcell (tokDev c q k) q k) () (amt k) := by
  obtain ⟨h1, h2⟩ := todo_send h ho hk hs
  unfold owed; rw [h1, Finset.sum_insert h2, add_comm]

theorem owed_bar : ∀ c, owed c 8 = owed c 9 := fun c => by
  unfold owed; rw [show todo 8 = todo 9 by decide +kernel]
theorem todo_end : todo 313 = ∅ := by decide +kernel
theorem owed_end (c : Dev nD) : owed c 313 = 0 := by unfold owed; rw [todo_end]; rfl

/-! ## Levels -/

def L (g : GSem nD τ sig) : Finset Unit := if g.1.2 = .tc then {()} else ∅

/-- A cell's level: a device waits only on cells below everything it still owes. -/
def clv : CK → ℕ
  | .rsR t => 2 + t.val
  | .agR u => (![0, 6, 6, 8, 6, 7, 7, 9] : Fin 8 → ℕ) u
  | _ => 0

def lv (g : GSem nD τ sig) (_ : Unit) : ℕ := match key g.2 with
  | some none => 1
  | some (some (_, k)) => clv k
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_d (c : Dev nD) (q : Fin 8) (k : CK) (u : Unit) : lv (dcell c q k) u = clv k := by unfold lv; rw [key_d]
theorem lv_bar (c : Dev nD) (u : Unit) : lv (barCell c) u = 1 := by unfold lv; rw [key_b]

theorem owed_pos {c : Dev nD} {p : ℕ} {g : GSem nD τ sig} {u : Unit} (h : 0 < owed c p g u) :
    ∃ q k, k ∈ recvKeys ∧ p ≤ sendAt q k ∧ g = dcell (tokDev c q k) q k := by
  unfold owed at h
  rw [Finset.sum_apply, Finsupp.finset_sum_apply] at h
  obtain ⟨⟨q, k⟩, hx, hne⟩ := Finset.exists_ne_zero_of_sum_ne_zero (Nat.pos_iff_ne_zero.mp h)
  rw [mem_todo] at hx
  refine ⟨q, k, hx.1, hx.2, ?_⟩
  by_contra hg
  rw [tallyAt_apply, if_neg (fun h' => hg h'.1)] at hne
  exact hne rfl

omit [FloatOps F] in
theorem mayWait_of (c : Dev nD) (p : ℕ) (sm : SemLoc sig) (n : ℕ) (hn : lv ((c : Thread nD τ), sm) () = n)
    (h : ∀ q, ∀ k ∈ recvKeys, p ≤ sendAt q k → n < clv k) :
    (levAts L lv : sProp 𝕄) ⊢ MayWait (c : Thread nD τ) sm () (owed c p) :=
  MayOwe.of_cut (L := L) (lev := lv) n (fun x hx => by rw [Finset.mem_singleton.mp hx, L_tc]; exact Finset.mem_singleton_self _)
    (fun g u hg => by obtain ⟨q, k, _, _, rfl⟩ := owed_pos hg; rw [L_tc]; exact Finset.mem_singleton_self _)
    (fun x hx => by rw [Finset.mem_singleton.mp hx]; exact hn.le)
    (fun g u hg => by obtain ⟨q, k, hk, hp, rfl⟩ := owed_pos hg; rw [lv_d]; exact h q k hk hp)

/-! ## The state -/

/-- The invariants of all cells of all devices, and that each has begun. -/
def records (K : Dev nD × Key → ℕ) : sProp 𝕄 :=
  iprop((bigSep Finset.univ fun ck : Dev nD × Key => cellInv ER (Rd X) (K ck) (cell ck.1 ck.2))
    ∗ bigSep Finset.univ fun ck : Dev nD × Key => reached ER (cell ck.1 ck.2) 0)

instance records_persistent (K : Dev nD × Key → ℕ) : BI.Persistent (records X K) := by unfold records; infer_instance

omit [FloatOps F] in
theorem bigSep_take {I : Type} [DecidableEq I] [Fintype I] (Φ : I → sProp 𝕄) (i : I) : bigSep Finset.univ Φ ⊢ Φ i :=
  bigSep_elim (Finset.mem_univ i)

theorem rec_inv (K : Dev nD × Key → ℕ) (c : Dev nD) (k : Key) : records X K ⊢ cellInv ER (Rd X) (K (c, k)) (cell c k) := by
  unfold records; iintro ⟨H, -⟩
  iapply (bigSep_take (fun ck : Dev nD × Key => cellInv ER (Rd X) (K ck) (cell ck.1 ck.2)) (c, k))
  iexact H
theorem rec_reached (K : Dev nD × Key → ℕ) (c : Dev nD) (k : Key) : records X K ⊢ reached ER (cell c k) 0 := by
  unfold records; iintro ⟨-, H⟩
  iapply (bigSep_take (fun ck : Dev nD × Key => reached ER (cell ck.1 ck.2) 0) (c, k))
  iexact H

/-- The barrier's part of the state. -/
def barPart (c : Dev nD) (p : ℕ) : sProp 𝕄 :=
  if p ≤ 8 then iprop(cred (tallyAt (barCell c) () 4) ∗ atPos ER (barCell c) 0 ∅ 0) else semVal (barCell c) 0

/-- A device's state after `p` steps. -/
def St (K : Dev nD × Key → ℕ) (c : Dev nD) (p : ℕ) : sProp 𝕄 :=
  iprop(records X K ∗ levAts L lv ∗ (∃ W, owes (c : Thread nD τ) (owed c p) W) ∗ barPart c p ∗ xPts c (X c) ∗ strips X c p)

theorem St_open (K : Dev nD × Key → ℕ) (c : Dev nD) {p : ℕ} {q : Fin 8} {o : Op} (h : opAt p = some (q, o)) :
    St X K c p ⊢ iprop(records X K ∗ levAts L lv ∗ (∃ W, owes (c : Thread nD τ) (owed c p) W) ∗ xPts c (X c) ∗ bigSep (pre o) (den X c q)
      ∗ (barPart c p ∗ stripsRest X c p q o)) := by
  unfold St
  iintro ⟨H1, H2, H3, H4, H5, H8⟩
  ihave H9 := (strips_open X c h) $$ H8
  icases H9 with ⟨H6, H7⟩
  isplitl [H1]; · iexact H1
  isplitl [H2]; · iexact H2
  isplitl [H3]; · iexact H3
  isplitl [H5]; · iexact H5
  isplitl [H6]; · iexact H6
  isplitl [H4] <;> iassumption

theorem opAt_ne_bar {p : ℕ} {q : Fin 8} {o : Op} (h : opAt p = some (q, o)) : p ≠ 8 := by
  rintro rfl
  rw [show opAt 8 = none by decide +kernel] at h
  exact absurd h (by simp)

theorem St_close (K : Dev nD × Key → ℕ) (c : Dev nD) {p : ℕ} {q : Fin 8} {o : Op} (h : opAt p = some (q, o)) :
    iprop(records X K ∗ levAts L lv ∗ (∃ W, owes (c : Thread nD τ) (owed c (p + 1)) W) ∗ xPts c (X c) ∗ bigSep (post o) (den X c q)
      ∗ (barPart c p ∗ stripsRest X c p q o)) ⊢ St X K c (p + 1) := by
  unfold St
  have hb : (barPart (F := F) c (p + 1)) = barPart c p := by
    have := opAt_ne_bar h
    unfold barPart
    by_cases hp : p ≤ 8
    · rw [if_pos hp, if_pos (by omega)]
    · rw [if_neg hp, if_neg (by omega)]
  rw [hb]
  iintro ⟨H1, H2, H3, H5, H6, H4, H7⟩
  isplitl [H1]; · iexact H1
  isplitl [H2]; · iexact H2
  isplitl [H3]; · iexact H3
  isplitl [H4]; · iexact H4
  isplitl [H5]; · iexact H5
  iapply (strips_close X c h)
  isplitl [H6] <;> iassumption

end Cert.Exchange

end
-- ==== Proof.Access.lean ====
/-
  What the kernel's accesses read and write, as functions of the places: a piece of the output, a
  landing area, and the transfers between them.
-/
module

public import proofs.«01_k».proof.Proof.Sched

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The place in a landing buffer at four coordinates. -/
def at4 (a b r k : ℕ) : RIdx := fun x => match x with
  | ⟨0, _⟩ => ⟨a % 8, Nat.mod_lt _ (by decide)⟩
  | ⟨1, _⟩ => ⟨b % 4, Nat.mod_lt _ (by decide)⟩
  | ⟨2, _⟩ => ⟨r % 1024, Nat.mod_lt _ (by decide)⟩
  | ⟨3, _⟩ => ⟨k % 128, Nat.mod_lt _ (by decide)⟩

theorem at4_self (i : RIdx) : at4 (i 0).val (i 1).val (i 2).val (i 3).val = i := by
  funext a
  match a with
  | ⟨0, _⟩ => exact Fin.ext (Nat.mod_eq_of_lt (i 0).isLt)
  | ⟨1, _⟩ => exact Fin.ext (Nat.mod_eq_of_lt (i 1).isLt)
  | ⟨2, _⟩ => exact Fin.ext (Nat.mod_eq_of_lt (i 2).isLt)
  | ⟨3, _⟩ => exact Fin.ext (Nat.mod_eq_of_lt (i 3).isLt)

abbrev S2 (N : ℕ) : Shape := ⟨2, ![N, 128]⟩
abbrev S4 (N : ℕ) : Shape := ⟨4, ![1, 1, N, 128]⟩

/-- What a load of a piece of the output reads. -/
def oVal (N r k : ℕ) (f : OIdx → Elt F .bf16) : (S2 N).Idx → Elt F .bf16 := fun x => f (at2 (r + (x 0).val) (k + (x 1).val))
/-- What a load of a landing area reads. -/
def rVal (N a b : ℕ) (f : RIdx → Elt F .bf16) : (S4 N).Idx → Elt F .bf16 := fun x => f (at4 a b (x 2).val (x 3).val)

theorem oRect_emb {N : ℕ} {r k : ℕ} {inb} (x : (S2 N).Idx) :
    (oRect N ![r, k] inb).emb x = at2 (r + (x 0).val) (k + (x 1).val) := by
  rw [← at2_self ((oRect N ![r, k] inb).emb x), Rect.emb_apply, Rect.emb_apply]
  show at2 (r + 1 * (x 0).val) (k + 1 * (x 1).val) = _
  rw [one_mul, one_mul]

theorem rRect_emb {N : ℕ} {a b : ℕ} {inb} (x : (S4 N).Idx) :
    (rRect N ![a, b, 0, 0] inb).emb x = at4 a b (x 2).val (x 3).val := by
  rw [← at4_self ((rRect N ![a, b, 0, 0] inb).emb x), Rect.emb_apply, Rect.emb_apply, Rect.emb_apply, Rect.emb_apply]
  show at4 (a + 1 * (x 0).val) (b + 1 * (x 1).val) (0 + 1 * (x 2).val) (0 + 1 * (x 3).val) = _
  have h0 : (x 0).val < 1 := (x 0).isLt
  have h1 : (x 1).val < 1 := (x 1).isLt
  rw [Nat.lt_one_iff.mp h0, Nat.lt_one_iff.mp h1]
  simp only [Nat.mul_zero, Nat.add_zero, Nat.one_mul, Nat.zero_add]

theorem read_x {N : ℕ} {off : Fin 2 → ℕ} {r k : ℕ} {inb} (hoff : off = ![r, k]) (f : OIdx → Elt F .bf16) :
    (xM : Memref sig .tc .vmem S2048x1024 .bf16).view.readAt (Elt F) (oRect N off inb).toLoadRect f = oVal N r k f := by
  subst hoff; funext x; exact congrArg f (oRect_emb x)
theorem read_o {N : ℕ} {off : Fin 2 → ℕ} {r k : ℕ} {inb} (hoff : off = ![r, k]) (f : OIdx → Elt F .bf16) :
    (oM : Memref sig .tc .vmem S2048x1024 .bf16).view.readAt (Elt F) (oRect N off inb).toLoadRect f = oVal N r k f := by
  subst hoff; funext x; exact congrArg f (oRect_emb x)
theorem read_r {N : ℕ} {off : Fin 4 → ℕ} {a b : ℕ} {inb} (hoff : off = ![a, b, 0, 0]) (f : RIdx → Elt F .bf16) :
    (rM : Memref sig .tc .vmem S8x4x1024x128 .bf16).view.readAt (Elt F) (rRect N off inb).toLoadRect f = rVal N a b f := by
  subst hoff; funext x; exact congrArg f (rRect_emb x)

theorem set_o (N : ℕ) (off : Fin 2 → ℕ) (inb) :
    ((oM : Memref sig .tc .vmem S2048x1024 .bf16).access (oRect N off inb)).set = (oRect N off inb).set := View.set_slice_whole _ _
theorem setOn_o (N : ℕ) (off : Fin 2 → ℕ) (inb) :
    (oM : Memref sig .tc .vmem S2048x1024 .bf16).view.setOn (oRect N off inb).set = (oRect N off inb).set := by
  exact (View.set_slice (oM : Memref sig .tc .vmem S2048x1024 .bf16).view (oRect N off inb)).symm.trans (View.set_slice_whole _ _)
theorem setOn_r (N : ℕ) (off : Fin 4 → ℕ) (inb) :
    (rM : Memref sig .tc .vmem S8x4x1024x128 .bf16).view.setOn (rRect N off inb).set = (rRect N off inb).set := by
  exact (View.set_slice (rM : Memref sig .tc .vmem S8x4x1024x128 .bf16).view (rRect N off inb)).symm.trans (View.set_slice_whole _ _)

/-- A place of a rectangle is one the rectangle's embedding reaches. -/
theorem exists_emb {s : Shape} {r : Rect s} {i : s.Idx} (h : i ∈ r.set) : ∃ x, r.emb x = i := by
  rw [← Rect.map_emb_univ, Finset.mem_map] at h
  obtain ⟨x, -, hx⟩ := h; exact ⟨x, hx⟩

/-- A store of a piece leaves it holding what was stored. -/
theorem write_o {N : ℕ} {off : Fin 2 → ℕ} {r k : ℕ} {inb} (hoff : off = ![r, k]) (f g : OIdx → Elt F .bf16) (w : (S2 N).Idx → Elt F .bf16)
    (hw : ∀ x, w x = oVal N r k g x) {i : OIdx} (hi : i ∈ (oRect N off inb).set) :
    ((oM : Memref sig .tc .vmem S2048x1024 .bf16).access (oRect N off inb)).write (Elt F) f w Finset.univ i = g i := by
  subst hoff
  obtain ⟨x, rfl⟩ := exists_emb hi
  refine (View.write_emb_of_mem (v := (oM : Memref sig .tc .vmem S2048x1024 .bf16).access (oRect N ![r, k] inb)) f w (Finset.mem_univ x)).trans ?_
  show w x = _
  rw [hw x, oRect_emb]; rfl

theorem ix2_self {N : ℕ} (x : (S2 N).Idx) : ix2 (x 0) (x 1) = x := by
  funext a; match a with | ⟨0, _⟩ => rfl | ⟨1, _⟩ => rfl

/-- A landing area's coordinates behind those of the block sent to it. -/
theorem reshape_11 {N : ℕ} (h : (S2 N).numel = (S4 N).numel) (x : (S2 N).Idx) :
    ((Shape.reshapeEquiv h x) 2).val = (x 0).val ∧ ((Shape.reshapeEquiv h x) 3).val = (x 1).val := by
  have e := (congrArg (Shape.reshapeEquiv h) (ix2_self x).symm).trans (reshapeEquiv_ix2_11ab h (x 0) (x 1))
  exact ⟨congrArg (fun y : (S4 N).Idx => (y 2).val) e, congrArg (fun y : (S4 N).Idx => (y 3).val) e⟩

/-- The sum of a step, as the kernel computes it. -/
def sumPay (N : ℕ) (h1 : (S2 N).ShapeCasts (S2 N)) (h2 : (S4 N).ShapeCasts (S2 N)) (a : (S2 N).Idx → Elt F .bf16) (b : (S4 N).Idx → Elt F .bf16) :
    (S2 N).Idx → Elt F .bf16 :=
  addf (F := F) (φ := .bf16) (shapeCast (S2 N) a h1) (shapeCast (S2 N) b h2)

theorem sumPay_apply (N r k a b : ℕ) (h1 h2) (f : OIdx → Elt F .bf16) (g : RIdx → Elt F .bf16) (x : (S2 N).Idx) :
    sumPay N h1 h2 (oVal N r k f) (rVal N a b g) x
      = FloatOps.addf (F := F) (φ := .bf16) (f (at2 (r + (x 0).val) (k + (x 1).val))) (g (at4 a b (x 0).val (x 1).val)) := by
  show FloatOps.addf (F := F) (φ := .bf16) (oVal N r k f (Shape.reshapeEquiv _ x)) (rVal N a b g (Shape.reshapeEquiv _ x)) = _
  rw [Shape.reshapeEquiv_self]
  unfold rVal
  rw [(reshape_11 _ x).1, (reshape_11 _ x).2]; rfl

theorem castPay_apply (N r k : ℕ) (h1 : (S2 N).ShapeCasts (S2 N)) (f : OIdx → Elt F .bf16) (x : (S2 N).Idx) :
    shapeCast (S2 N) (oVal N r k f) h1 x = oVal N r k f x := by
  show oVal N r k f (Shape.reshapeEquiv _ x) = _
  rw [Shape.reshapeEquiv_self]

/-- The view of a piece of the output. -/
abbrev oView (N : ℕ) (off : Fin 2 → ℕ) (inb : ∀ a, off a + (S2 N).size a ≤ S2048x1024.size a) : Memref sig .tc .vmem (S2 N) .bf16 :=
  (oM : Memref sig .tc .vmem S2048x1024 .bf16).slice (oRect N off inb) (fun _ => rfl)
/-- The view of a landing area. -/
abbrev rView (N : ℕ) (off : Fin 4 → ℕ) (inb : ∀ a, off a + (S4 N).size a ≤ S8x4x1024x128.size a) (h : (S4 N).Squeezes (S2 N)) : Memref sig .tc .vmem (S2 N) .bf16 :=
  ((rM : Memref sig .tc .vmem S8x4x1024x128 .bf16).slice (rRect N off inb) (fun _ => rfl)).squeeze (S2 N) h

theorem oView_set (N : ℕ) (off : Fin 2 → ℕ) (inb) : (oView N off inb).view.set = (oRect N off inb).set := set_o N off inb
theorem rView_set (N : ℕ) (off : Fin 4 → ℕ) (inb) (h) : (rView N off inb h).view.set = (rRect N off inb).set := by
  exact (View.set_reshape ((rM : Memref sig .tc .vmem S8x4x1024x128 .bf16).view.slice (rRect N off inb)) h.numel_eq).trans (View.set_slice_whole _ _)

/-- A transfer between the same pieces of two outputs copies. -/
theorem land_o {N : ℕ} {off : Fin 2 → ℕ} {inb inb'} (fd fs : OIdx → Elt F .bf16) {i : OIdx} (hi : i ∈ (oRect N off inb).set) :
    (oView N off inb).view.write (Elt F) fd ((oView N off inb').view.read (Elt F) fs) Finset.univ i = fs i := by
  obtain ⟨x, rfl⟩ := exists_emb hi
  exact View.write_emb_of_mem (v := (oView N off inb).view) fd _ (Finset.mem_univ x)

/-- A transfer of a piece of the output to a landing area. -/
theorem land_r {N : ℕ} {off : Fin 2 → ℕ} {off' : Fin 4 → ℕ} {r k a b : ℕ} {inb inb' h} (hoff : off = ![r, k]) (hoff' : off' = ![a, b, 0, 0])
    (fd : RIdx → Elt F .bf16) (fs : OIdx → Elt F .bf16) {i : RIdx} (hi : i ∈ (rRect N off' inb').set) :
    (rView N off' inb' h).view.write (Elt F) fd ((oView N off inb).view.read (Elt F) fs) Finset.univ i
      = fs (at2 (r + (i 2).val) (k + (i 3).val)) := by
  subst hoff hoff'
  have hi' : i ∈ (rView N ![a, b, 0, 0] inb' h).view.set := by rw [rView_set]; exact hi
  unfold View.set at hi'
  rw [Finset.mem_map] at hi'
  obtain ⟨x, -, rfl⟩ := hi'
  refine (View.write_emb_of_mem (v := (rView N ![a, b, 0, 0] inb' h).view) fd _ (Finset.mem_univ x)).trans ?_
  show fs ((oRect N ![r, k] inb).emb x) = _
  rw [oRect_emb]
  have e : (rView N ![a, b, 0, 0] inb' h).view.emb x = (rRect N ![a, b, 0, 0] inb').emb (Shape.reshapeEquiv h.numel_eq x) := rfl
  have e2 : (((rRect N ![a, b, 0, 0] inb').emb (Shape.reshapeEquiv h.numel_eq x)) 2).val = (x 0).val := by
    rw [Rect.emb_apply]; show 0 + 1 * _ = _; rw [(reshape_11 _ x).1, one_mul, zero_add]
  have e3 : (((rRect N ![a, b, 0, 0] inb').emb (Shape.reshapeEquiv h.numel_eq x)) 3).val = (x 1).val := by
    rw [Rect.emb_apply]; show 0 + 1 * _ = _; rw [(reshape_11 _ x).2, one_mul, zero_add]
  rw [e, e2, e3]

end Cert.Exchange

end
-- ==== Proof.Steps.lean ====
/-
  One step of the run on the device's own memory: the loads, and the stores that copy the input and
  add what has landed.
-/
module

public import proofs.«01_k».proof.Proof.State
public import proofs.«01_k».proof.Proof.Access

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A kernel program's weakest precondition on device `c`. -/
abbrev WP (c : Dev nD) {α : Type} (prog : Prog (TpuEff nD τ sig (Elt F) Λ₀ .tc) α) (Q : α → sProp 𝕄) : sProp 𝕄 :=
  wp frame (wpE (defs₀ (F := F)) 𝒱₀ (c : Thread nD τ) none) Set.univ prog Q

variable (X : Blocks F) (K : Dev nD × Key → ℕ)

/-- What a step takes can be looked at and put back. -/
theorem St_peek (c : Dev nD) {p : ℕ} {q : Fin 8} {o : Op} (h : opAt p = some (q, o)) :
    St X K c p ⊢ iprop(bigSep (pre o) (den X c q) ∗ (bigSep (pre o) (den X c q) -∗ St X K c p)) := by
  unfold St strips
  rw [bigSep_univ_at _ q, (held_step X c q (opAt_spec h).1).1]
  iintro ⟨H1, H2, H3, H4, H5, ⟨H6, H7⟩, H8⟩
  isplitl [H6]; · iexact H6
  iintro H6
  isplitl [H1]; · iexact H1
  isplitl [H2]; · iexact H2
  isplitl [H3]; · iexact H3
  isplitl [H4]; · iexact H4
  isplitl [H5]; · iexact H5
  isplitr [H8]
  · isplitl [H6] <;> iassumption
  iexact H8

section Den
variable (c : Dev nD) (q : Fin 8)
theorem den_raw (v : Fin 8) (n : Fin 4) : den X c q (.raw v n) = iprop(∃ f, oPts c (R c q v n) fullShare f) := rfl
theorem den_val (t : Fin 4) (v : Fin 8) (n : Fin 4) : den X c q (.val t v n) = oPts c (R c q v n) fullShare (V X t.val c) := rfl
theorem den_fin (u : Fin 8) : den X c q (.fin u) = oPts c (R c q (par u) 3) (sh u) (V X 4 (src c q (par u))) := rfl
theorem den_leaf (u : Fin 8) : den X c q (.leaf u) = oPts c (R c q u 3) fullShare (V X 4 (src c q u)) := rfl
theorem den_peer (u : Fin 8) : den X c q (.peer u) = iprop(∃ f, oPts (nbr q (low u) c) (R c q (par u) 3) fullShare f) := rfl
theorem den_prs (t : Fin 4) : den X c q (.prs t) = iprop(∃ f, rPts (nbr q t c) (RV q t) f) := rfl
theorem den_rb (t : Fin 4) : den X c q (.rb t true) = rPts c (RV q t) (RC X c q t) := rfl
theorem den_rb0 (t : Fin 4) : den X c q (.rb t false) = iprop(∃ f, rPts c (RV q t) f) := rfl
theorem den_tk (k : CK) : den X c q (.tk k) = dutyTok ER (dcell (tokDev c q k) q k) 0 (0 : Fin 4) := rfl
theorem den_cr (k : CK) : den X c q (.cr k) = cred (tallyAt (dcell c q k) () (amt k)) := rfl
theorem den_pos (k : CK) : den X c q (.pos k) = atPos ER (dcell c q k) 0 ∅ 0 := rfl
theorem den_z (k : CK) : den X c q (.z k) = semVal (dcell c q k) 0 := rfl
end Den

section Pre
omit [FloatOps F] in
theorem pre_storeSend (Φ : Atom → sProp 𝕄) : bigSep (pre .storeSend) Φ = Φ (.raw 0 0) := bigSep_singleton
omit [FloatOps F] in
theorem pre_storeKept (Φ : Atom → sProp 𝕄) : bigSep (pre .storeKept) Φ = Φ (.raw 0 1) := bigSep_singleton
omit [FloatOps F] in
theorem pre_sum (Φ : Atom → sProp 𝕄) (t : Fin 4) : bigSep (pre (.sum t)) Φ = iprop(Φ (.val t 0 (nn t)) ∗ Φ (.rb t true)) := by
  unfold pre; rw [bigSep_insert (by simp), bigSep_singleton]; rfl
omit [FloatOps F] in
theorem pre_wait (Φ : Atom → sProp 𝕄) (k : CK) : bigSep (pre (.wait k)) Φ = iprop(Φ (.cr k) ∗ Φ (.pos k)) := by
  unfold pre; rw [bigSep_insert (by simp), bigSep_singleton]; rfl
omit [FloatOps F] in
theorem pre_agSend (Φ : Atom → sProp 𝕄) (u : Fin 8) : bigSep (pre (.agSend u)) Φ = iprop(Φ (.fin u) ∗ Φ (.peer u) ∗ Φ (.tk (.agS u)) ∗ Φ (.tk (.agR u))) := by
  unfold pre; rw [bigSep_insert (by simp), bigSep_insert (by simp), bigSep_insert (by simp), bigSep_singleton]; rfl
omit [FloatOps F] in
theorem pre_rsSend (Φ : Atom → sProp 𝕄) (t : Fin 4) : bigSep (pre (.rsSend t)) Φ = iprop(Φ (sent t) ∗ Φ (.prs t) ∗ Φ (.tk (.rsS t)) ∗ Φ (.tk (.rsR t))) := by
  unfold pre; rw [bigSep_insert (by revert t; decide), bigSep_insert (by simp), bigSep_insert (by simp), bigSep_singleton]; rfl
omit [FloatOps F] in
theorem post_storeSend (Φ : Atom → sProp 𝕄) : bigSep (post .storeSend) Φ = iprop(Φ (.raw 0 1) ∗ Φ (.val 0 1 1)) := by
  unfold post; rw [bigSep_insert (by simp), bigSep_singleton]; rfl
omit [FloatOps F] in
theorem post_storeKept (Φ : Atom → sProp 𝕄) : bigSep (post .storeKept) Φ = Φ (.val 0 0 1) := bigSep_singleton
omit [FloatOps F] in
theorem post_sum (Φ : Atom → sProp 𝕄) {t : Fin 4} (h : t ≠ 3) : bigSep (post (.sum t)) Φ = iprop(Φ (.val (t + 1) 0 (nn t)) ∗ Φ (.rb t true)) := by
  rw [show post (.sum t) = {.val (t + 1) 0 (nn t), .rb t true} from if_neg h, bigSep_insert (by simp), bigSep_singleton]; rfl
omit [FloatOps F] in
theorem post_sum3 (Φ : Atom → sProp 𝕄) : bigSep (post (.sum 3)) Φ = iprop(Φ (.fin 4) ∗ Φ (.fin 2) ∗ Φ (.fin 1) ∗ Φ (.rb 3 true)) := by
  rw [show post (.sum 3) = {.fin 4, .fin 2, .fin 1, .rb 3 true} from rfl, bigSep_insert (by decide), bigSep_insert (by decide), bigSep_insert (by decide), bigSep_singleton]; rfl
end Pre

section
theorem oPts_halve (c : Dev nD) (S : Finset OIdx) (q : PosShare TreeShare) (f : OIdx → Elt F .bf16) :
    oPts c S q f ⊢ iprop(oPts c S q.left f ∗ oPts c S q.right f) := (pointsTo_share (PosShare.mem_left_op_right q)).1
theorem oPts_union (c : Dev nD) {S T : Finset OIdx} (h : Disjoint S T) (q : PosShare TreeShare) (f : OIdx → Elt F .bf16) :
    oPts c (S ∪ T) q f ⊢ iprop(oPts c S q f ∗ oPts c T q f) := (pointsTo_union h).1
end

/-! ## Loads -/

/-- A load of the input. -/
theorem step_load_x (c : Dev nD) {p N : ℕ} {off : Dev nD → Fin 2 → ℕ} {inb hl} {α : Type} {k : ((S2 N).Idx → Elt F .bf16) → Prog (TpuEff nD τ sig (Elt F) Λ₀ .tc) α} {Q : α → sProp 𝕄}
    (v : Fin 8) (hoff : ∀ d, off d = ![rowOff d (qAt p) v 1, 128 * (qAt p).val])
    (h : St X K c p ⊢ WP c (k (oVal N (rowOff c (qAt p) v 1) (128 * (qAt p).val) (X c))) Q) :
    St X K c p ⊢ WP c (Prog.lift (.load xM (oRect N (off c) inb).toLoadRect hl) >>= k) Q := by
  rw [Prog.bind_lift]
  have h' := h
  unfold St xPts at h ⊢
  iintro ⟨H1, H2, H3, H4, H5, H6⟩
  iapply (wp_load 𝒱₀ (c : Thread nD τ) none Set.univ (m := xM) (Finset.subset_univ _)) $$ H5; iintro H5
  rw [read_x (hoff c)]
  iapply h
  isplitl [H1]; · iexact H1
  isplitl [H2]; · iexact H2
  isplitl [H3]; · iexact H3
  isplitl [H4]; · iexact H4
  isplitl [H5] <;> iassumption

/-- A load of a piece of the output whose contents are not known. -/
theorem load_any (c : Dev nD) {N : ℕ} {off : Fin 2 → ℕ} {inb hl} {α : Type} {k : ((S2 N).Idx → Elt F .bf16) → Prog (TpuEff nD τ sig (Elt F) Λ₀ .tc) α} {Q : α → sProp 𝕄}
    {P : sProp 𝕄} {S : Finset OIdx} (hP : P ⊢ iprop((∃ f, oPts c S fullShare f) ∗ ((∃ f, oPts c S fullShare f) -∗ P)))
    (hS : (oRect N off inb).set ⊆ S) (h : ∀ w, P ⊢ WP c (k w) Q) :
    P ⊢ WP c (Prog.lift (.load oM (oRect N off inb).toLoadRect hl) >>= k) Q := by
  rw [Prog.bind_lift]
  refine hP.trans ?_
  unfold oPts
  iintro ⟨⟨%f, H⟩, HW⟩
  iapply (wp_load 𝒱₀ (c : Thread nD τ) none Set.univ (m := oM) (S := S) (by rw [show (oRect N off inb).toLoadRect.set = (oRect N off inb).set from rfl, setOn_o]; exact hS)) $$ H; iintro H
  iapply (h _)
  iapply HW
  iexists f; iexact H

/-- A load of a piece of the output whose contents are known. -/
theorem load_known (c : Dev nD) {N r kk : ℕ} {off : Fin 2 → ℕ} {inb hl} {α : Type} {k : ((S2 N).Idx → Elt F .bf16) → Prog (TpuEff nD τ sig (Elt F) Λ₀ .tc) α} {Q : α → sProp 𝕄}
    {P : sProp 𝕄} {S : Finset OIdx} {f} (hP : P ⊢ iprop(oPts c S fullShare f ∗ (oPts c S fullShare f -∗ P)))
    (hoff : off = ![r, kk]) (hS : (oRect N off inb).set ⊆ S) (h : P ⊢ WP c (k (oVal N r kk f)) Q) :
    P ⊢ WP c (Prog.lift (.load oM (oRect N off inb).toLoadRect hl) >>= k) Q := by
  rw [Prog.bind_lift]
  refine hP.trans ?_
  unfold oPts
  iintro ⟨H, HW⟩
  iapply (wp_load 𝒱₀ (c : Thread nD τ) none Set.univ (m := oM) (S := S) (by rw [show (oRect N off inb).toLoadRect.set = (oRect N off inb).set from rfl, setOn_o]; exact hS)) $$ H; iintro H
  rw [read_o hoff]
  iapply h
  iapply HW
  iexact H

theorem rows_le (c : Dev nD) (q v : Fin 8) : R c q v 1 ⊆ R c q 0 0 := by
  intro i hi; rw [mem_R] at hi ⊢
  have h0 := rowOff_zero c q 0
  have h1 := (i 0).isLt
  rw [h0, Nat.zero_add]
  exact ⟨⟨Nat.zero_le _, h1⟩, hi.2⟩

/-- The load before a store of the rows to be sent. -/
theorem step_load_send (c : Dev nD) {p N : ℕ} {off : Dev nD → Fin 2 → ℕ} {inb hl} {α : Type} {k : ((S2 N).Idx → Elt F .bf16) → Prog (TpuEff nD τ sig (Elt F) Λ₀ .tc) α} {Q : α → sProp 𝕄}
    (hop : opAt p = some (qAt p, .storeSend)) (hN : N = rows 1) (hoff : ∀ d, off d = ![rowOff d (qAt p) 1 1, 128 * (qAt p).val])
    (h : ∀ w, St X K c p ⊢ WP c (k w) Q) :
    St X K c p ⊢ WP c (Prog.lift (.load oM (oRect N (off c) inb).toLoadRect hl) >>= k) Q :=
  load_any c (S := R c (qAt p) 0 0) (by have := St_peek X K c hop; rw [pre_storeSend] at this; exact this)
    (by rw [oRect_set hN (hoff c)]; exact rows_le c _ 1) h

/-- The load before a store of the rows to be kept. -/
theorem step_load_kept (c : Dev nD) {p N : ℕ} {off : Dev nD → Fin 2 → ℕ} {inb hl} {α : Type} {k : ((S2 N).Idx → Elt F .bf16) → Prog (TpuEff nD τ sig (Elt F) Λ₀ .tc) α} {Q : α → sProp 𝕄}
    (hop : opAt p = some (qAt p, .storeKept)) (hN : N = rows 1) (hoff : ∀ d, off d = ![rowOff d (qAt p) 0 1, 128 * (qAt p).val])
    (h : ∀ w, St X K c p ⊢ WP c (k w) Q) :
    St X K c p ⊢ WP c (Prog.lift (.load oM (oRect N (off c) inb).toLoadRect hl) >>= k) Q :=
  load_any c (S := R c (qAt p) 0 1) (by have := St_peek X K c hop; rw [pre_storeKept] at this; exact this)
    (oRect_set hN (hoff c)).subset h

/-- The loads of the own partial sums. -/
theorem step_load_sum (c : Dev nD) {p N : ℕ} {off : Dev nD → Fin 2 → ℕ} {inb hl} {α : Type} {k : ((S2 N).Idx → Elt F .bf16) → Prog (TpuEff nD τ sig (Elt F) Λ₀ .tc) α} {Q : α → sProp 𝕄}
    (hop : opAt p = some (qAt p, .sum (tAt p))) (hN : N = rows (nn (tAt p))) (hoff : ∀ d, off d = ![rowOff d (qAt p) 0 (nn (tAt p)), 128 * (qAt p).val])
    (h : St X K c p ⊢ WP c (k (oVal N (rowOff c (qAt p) 0 (nn (tAt p))) (128 * (qAt p).val) (V X (tAt p).val c))) Q) :
    St X K c p ⊢ WP c (Prog.lift (.load oM (oRect N (off c) inb).toLoadRect hl) >>= k) Q :=
  load_known c (S := R c (qAt p) 0 (nn (tAt p)))
    (by
      refine (St_peek X K c hop).trans ?_
      rw [pre_sum, den_val]
      iintro ⟨⟨H1, H2⟩, HW⟩
      isplitl [H1]; · iexact H1
      iintro H1
      iapply HW
      isplitl [H1] <;> iassumption)
    (hoff c) (oRect_set hN (hoff c)).subset h

/-- The load of what has landed. -/
theorem step_load_recv (c : Dev nD) {p N : ℕ} {off : Fin 4 → ℕ} {inb hl} {α : Type} {k : ((S4 N).Idx → Elt F .bf16) → Prog (TpuEff nD τ sig (Elt F) Λ₀ .tc) α} {Q : α → sProp 𝕄}
    (hop : opAt p = some (qAt p, .sum (tAt p))) (hN : N = rows (nn (tAt p))) (hoff : off = ![(qAt p).val, (tAt p).val, 0, 0])
    (h : St X K c p ⊢ WP c (k (rVal N (qAt p).val (tAt p).val (RC X c (qAt p) (tAt p)))) Q) :
    St X K c p ⊢ WP c (Prog.lift (.load rM (rRect N off inb).toLoadRect hl) >>= k) Q := by
  rw [Prog.bind_lift]
  refine (St_peek X K c hop).trans ?_
  rw [pre_sum, den_rb]; unfold rPts
  iintro ⟨⟨H1, H⟩, HW⟩
  iapply (wp_load 𝒱₀ (c : Thread nD τ) none Set.univ (m := rM) (S := RV (qAt p) (tAt p))
    (by rw [show (rRect N off inb).toLoadRect.set = (rRect N off inb).set from rfl, setOn_r, rRect_set hN hoff])) $$ H; iintro H
  rw [read_r hoff]
  iapply h
  iapply HW
  isplitl [H1]; · iexact H1
  iexact H

/-! ## Stores -/

/-- A store of a piece of the output. -/
theorem store_out (c : Dev nD) {N r kk : ℕ} {off : Fin 2 → ℕ} {inb hx hm} {w : (S2 N).Idx → Elt F .bf16} {α : Type} {k : PUnit → Prog (TpuEff nD τ sig (Elt F) Λ₀ .tc) α} {Q : α → sProp 𝕄}
    {P A : sProp 𝕄} {S : Finset OIdx} {g : OIdx → Elt F .bf16} (hP : P ⊢ iprop((∃ f, oPts c S fullShare f) ∗ A))
    (hoff : off = ![r, kk]) (hS : (oRect N off inb).set = S) (hw : ∀ x, w x = oVal N r kk g x)
    (h : iprop(oPts c S fullShare g ∗ A) ⊢ WP c (k ⟨⟩) Q) :
    P ⊢ WP c (Prog.lift (.store oM (oRect N off inb) w Finset.univ hx hm) >>= k) Q := by
  rw [Prog.bind_lift]
  refine hP.trans ?_
  have e : ∀ f, oPts (F := F) c S fullShare (((oM : Memref sig .tc .vmem S2048x1024 .bf16).access (oRect N off inb)).write (Elt F) f w Finset.univ) = oPts c S fullShare g :=
    fun f => pointsTo_congr fun i hi => write_o hoff f g w hw (by rw [hS]; exact hi)
  iintro ⟨⟨%f, H⟩, HA⟩
  iapply (wp_store 𝒱₀ (c : Thread nD τ) none Set.univ (m := oM) (r := oRect N off inb) (Mk := Finset.univ) (S := S) (f := f)
    (by rw [View.setOn_univ, set_o, hS])) $$ [H]; · unfold oPts; iexact H
  iintro H
  iapply h
  isplitl [H]
  · ihave H := (Entails.of_eq (e f)) $$ [H]; · unfold oPts; iexact H
    iexact H
  iexact HA

/-- The rest of a state beside what a step takes. -/
def StRest (c : Dev nD) (p : ℕ) (q : Fin 8) (o : Op) : sProp 𝕄 :=
  iprop(records X K ∗ levAts L lv ∗ (∃ W, owes (c : Thread nD τ) (owed c p) W) ∗ xPts c (X c) ∗ (barPart c p ∗ stripsRest X c p q o))

theorem St_take (c : Dev nD) {p : ℕ} {q : Fin 8} {o : Op} (h : opAt p = some (q, o)) :
    St X K c p ⊢ iprop(bigSep (pre o) (den X c q) ∗ StRest X K c p q o) := by
  refine (St_open X K c h).trans ?_
  unfold StRest
  iintro ⟨H1, H2, H3, H4, H5, H6⟩
  isplitl [H5]; · iexact H5
  isplitl [H1]; · iexact H1
  isplitl [H2]; · iexact H2
  isplitl [H3]; · iexact H3
  isplitl [H4] <;> iassumption

theorem St_give (c : Dev nD) {p : ℕ} {q : Fin 8} {o : Op} (h : opAt p = some (q, o)) (ho : isSend o = none) :
    iprop(bigSep (post o) (den X c q) ∗ StRest X K c p q o) ⊢ St X K c (p + 1) := by
  rw [show StRest X K c p q o = iprop(records X K ∗ levAts L lv ∗ (∃ W, owes (c : Thread nD τ) (owed c (p + 1)) W) ∗ xPts c (X c) ∗ (barPart c p ∗ stripsRest X c p q o)) by
    unfold StRest; rw [owed_other c h ho]]
  refine BIBase.Entails.trans ?_ (St_close X K c h)
  iintro ⟨H5, H1, H2, H3, H4, H6⟩
  isplitl [H1]; · iexact H1
  isplitl [H2]; · iexact H2
  isplitl [H3]; · iexact H3
  isplitl [H4]; · iexact H4
  isplitl [H5] <;> iassumption

theorem step_storeSend (c : Dev nD) {p N : ℕ} {off : Dev nD → Fin 2 → ℕ} {inb hx hm} {w : (S2 N).Idx → Elt F .bf16} {α : Type} {k : PUnit → Prog (TpuEff nD τ sig (Elt F) Λ₀ .tc) α} {Q : α → sProp 𝕄}
    (hop : opAt p = some (qAt p, .storeSend)) (hN : N = rows 1) (hoff : ∀ d, off d = ![rowOff d (qAt p) 1 1, 128 * (qAt p).val]) {h1}
    (hw : w = shapeCast (S2 N) (oVal N (rowOff c (qAt p) 1 1) (128 * (qAt p).val) (X c)) h1)
    (h : St X K c (p + 1) ⊢ WP c (k ⟨⟩) Q) :
    St X K c p ⊢ WP c (Prog.lift (.store oM (oRect N (off c) inb) w Finset.univ hx hm) >>= k) Q := by
  refine store_out c (S := R c (qAt p) 1 1) (g := X c) (A := iprop((∃ f, oPts c (R c (qAt p) 0 1) fullShare f) ∗ StRest X K c p (qAt p) .storeSend)) ?_
    (hoff c) (oRect_set hN (hoff c)) (fun x => by rw [hw, castPay_apply]) ?_
  · refine (St_take X K c hop).trans ?_
    rw [pre_storeSend, den_raw]
    have e : ∀ f, oPts (F := F) c (R c (qAt p) 0 0) fullShare f ⊢ iprop(oPts c (R c (qAt p) 0 1) fullShare f ∗ oPts c (R c (qAt p) 1 1) fullShare f) := fun f => by
      rw [show R c (qAt p) 0 0 = R c (qAt p) 0 1 ∪ R c (qAt p) 1 1 from R_split c (qAt p) 0 0]
      exact oPts_union c (R_disj c (qAt p) 0 0) fullShare f
    iintro ⟨⟨%f, H⟩, HR⟩
    ihave H := (e f) $$ H
    icases H with ⟨H1, H2⟩
    isplitl [H2]; · iexists f; iexact H2
    isplitl [H1]; · iexists f; iexact H1
    iexact HR
  · refine BIBase.Entails.trans ?_ h
    refine BIBase.Entails.trans ?_ (St_give X K c hop rfl)
    rw [post_storeSend, den_raw, den_val]
    iintro ⟨H1, H2, H3⟩
    isplitr [H3]
    · isplitl [H2]; · iexact H2
      iexact H1
    iexact H3

theorem step_storeKept (c : Dev nD) {p N : ℕ} {off : Dev nD → Fin 2 → ℕ} {inb hx hm} {w : (S2 N).Idx → Elt F .bf16} {α : Type} {k : PUnit → Prog (TpuEff nD τ sig (Elt F) Λ₀ .tc) α} {Q : α → sProp 𝕄}
    (hop : opAt p = some (qAt p, .storeKept)) (hN : N = rows 1) (hoff : ∀ d, off d = ![rowOff d (qAt p) 0 1, 128 * (qAt p).val]) {h1}
    (hw : w = shapeCast (S2 N) (oVal N (rowOff c (qAt p) 0 1) (128 * (qAt p).val) (X c)) h1)
    (h : St X K c (p + 1) ⊢ WP c (k ⟨⟩) Q) :
    St X K c p ⊢ WP c (Prog.lift (.store oM (oRect N (off c) inb) w Finset.univ hx hm) >>= k) Q := by
  refine store_out c (S := R c (qAt p) 0 1) (g := X c) (A := StRest X K c p (qAt p) .storeKept) ?_
    (hoff c) (oRect_set hN (hoff c)) (fun x => by rw [hw, castPay_apply]) ?_
  · refine (St_take X K c hop).trans ?_
    rw [pre_storeKept]; exact BI.Entails.refl _
  · refine BIBase.Entails.trans ?_ h
    refine BIBase.Entails.trans ?_ (St_give X K c hop rfl)
    rw [post_storeKept]; exact BI.Entails.refl _

/-- The sum a step stores is the next partial sum. -/
theorem sum_value (c : Dev nD) (q : Fin 8) (t : Fin 4) {N : ℕ} (hN : N = rows (nn t)) (h1 h2) (x : (S2 N).Idx) :
    sumPay N h1 h2 (oVal N (rowOff c q 0 (nn t)) (128 * q.val) (V X t.val c)) (rVal N q.val t.val (RC X c q t)) x
      = oVal N (rowOff c q 0 (nn t)) (128 * q.val) (V X (t.val + 1) c) x := by
  subst hN
  rw [sumPay_apply]
  have hr : (x 0).val < rows (nn t) := (x 0).isLt
  have hk : (x 1).val < 128 := (x 1).isLt
  have hle := rowOff_le c q 0 (nn t)
  have hr2 : rows (nn t) ≤ 1024 := (by decide : ∀ t, rows (nn t) ≤ 1024) t
  show _ = FloatOps.addf (F := F) (φ := .bf16) _ _
  congr 1
  show V X t.val (nbr q t c) (at2 (rowOff c q 0 (nn t) + (x 0).val % 1024) (128 * q.val + (x 1).val % 128)) = V X t.val (nbr (qOf (at2 _ _)) (Fin.ofNat 4 t.val) c) (at2 _ _)
  rw [Nat.mod_eq_of_lt (by omega : (x 0).val < 1024), Nat.mod_eq_of_lt hk]
  have hq : qOf (at2 (rowOff c q 0 (nn t) + (x 0).val) (128 * q.val + (x 1).val)) = q := by
    refine qOf_of_mem (c := c) (v := 0) (n := nn t) ?_
    have : ((oRect (rows (nn t)) ![rowOff c q 0 (nn t), 128 * q.val] (by
        intro a; match a with
        | ⟨0, _⟩ => exact hle
        | ⟨1, _⟩ => show 128 * q.val + 128 ≤ 1024; omega)).emb x) ∈ R c q 0 (nn t) := by
      rw [← oRect_set (c := c) (q := q) (v := 0) (n := nn t) rfl rfl, ← Rect.map_emb_univ]
      exact Finset.mem_map_of_mem _ (Finset.mem_univ x)
    rwa [oRect_emb] at this
  rw [hq, show Fin.ofNat 4 t.val = t from Fin.ext (Nat.mod_eq_of_lt t.isLt)]

theorem fin_split (c : Dev nD) (q : Fin 8) :
    oPts c (R c q 0 3) fullShare (V X 4 c) ⊢ iprop(den X c q (.fin 4) ∗ den X c q (.fin 2) ∗ den X c q (.fin 1)) := by
  have e : ∀ u : Fin 8, u ≠ 0 → par u = 0 → den X c q (.fin u) = oPts c (R c q 0 3) (sh u) (V X 4 c) := fun u _ hu => by
    show oPts c (R c q (par u) 3) (sh u) (V X 4 (src c q (par u))) = _
    rw [hu, src_zero]
  rw [e 4 (by decide) (by decide), e 2 (by decide) (by decide), e 1 (by decide) (by decide)]
  iintro H
  ihave H := (oPts_halve c _ fullShare _) $$ H
  icases H with ⟨H1, H2⟩
  isplitl [H1]; · iexact H1
  ihave H := (oPts_halve c _ fullShare.right _) $$ H2
  iexact H

theorem step_sum (c : Dev nD) {p N : ℕ} {off : Dev nD → Fin 2 → ℕ} {inb hx hm} {w : (S2 N).Idx → Elt F .bf16} {α : Type} {k : PUnit → Prog (TpuEff nD τ sig (Elt F) Λ₀ .tc) α} {Q : α → sProp 𝕄}
    (hop : opAt p = some (qAt p, .sum (tAt p))) (hN : N = rows (nn (tAt p))) (hoff : ∀ d, off d = ![rowOff d (qAt p) 0 (nn (tAt p)), 128 * (qAt p).val]) {h1 h2}
    (hw : w = sumPay N h1 h2 (oVal N (rowOff c (qAt p) 0 (nn (tAt p))) (128 * (qAt p).val) (V X (tAt p).val c)) (rVal N (qAt p).val (tAt p).val (RC X c (qAt p) (tAt p))))
    (h : St X K c (p + 1) ⊢ WP c (k ⟨⟩) Q) :
    St X K c p ⊢ WP c (Prog.lift (.store oM (oRect N (off c) inb) w Finset.univ hx hm) >>= k) Q := by
  refine store_out c (S := R c (qAt p) 0 (nn (tAt p))) (g := V X ((tAt p).val + 1) c) (A := iprop(den X c (qAt p) (.rb (tAt p) true) ∗ StRest X K c p (qAt p) (.sum (tAt p)))) ?_
    (hoff c) (oRect_set hN (hoff c)) (fun x => by rw [hw, sum_value X c (qAt p) (tAt p) hN]) ?_
  · refine (St_take X K c hop).trans ?_
    rw [pre_sum, den_val]
    iintro ⟨⟨H1, H2⟩, H3⟩
    isplitl [H1]; · iexists _; iexact H1
    isplitl [H2] <;> iassumption
  · refine BIBase.Entails.trans ?_ h
    refine BIBase.Entails.trans ?_ (St_give X K c hop rfl)
    generalize hq : qAt p = q
    generalize ht : tAt p = t
    by_cases h3 : t = 3
    · subst h3
      rw [post_sum3]
      iintro ⟨H1, H2, H3⟩
      isplitr [H3]
      · ihave H := (fin_split X c q) $$ [H1]; · iexact H1
        icases H with ⟨Ha, Hb, Hc⟩
        isplitl [Ha]; · iexact Ha
        isplitl [Hb]; · iexact Hb
        isplitl [Hc] <;> iassumption
      iexact H3
    · rw [post_sum _ h3]
      have e : oPts c (R c q 0 (nn t)) fullShare (V X (t.val + 1) c) = den X c q (.val (t + 1) 0 (nn t)) := by
        show _ = oPts c (R c q 0 (nn t)) fullShare (V X (t + 1).val c)
        rw [show (t + 1).val = t.val + 1 from (by decide : ∀ t : Fin 4, t ≠ 3 → (t + 1).val = t.val + 1) t h3]
      rw [e]
      iintro ⟨H1, H2, H3⟩
      isplitr [H3]
      · isplitl [H1] <;> iassumption
      iexact H3

end Cert.Exchange

end
-- ==== Proof.Comm.lean ====
/-
  One step of the run that talks to other devices: the transfers and the waits for them.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Blocks F) (K : Dev nD × Key → ℕ)

/-! ## What a transfer hands over -/

/-- A part of a piece of another output, as the place of a chunk to be sent back. -/
theorem peer_of (c : Dev nD) (q : Fin 8) (u : Fin 8) (hu : u ≠ 0) (f : OIdx → Elt F .bf16) :
    oPts c (R c q u 3) fullShare f ⊢ den X (nbr q (low u) c) q (.peer u) := by
  rw [den_peer, nbr_nbr, R_nbr c q (par u) (low_lt u), show tog (par u) (low u) = u from
    (by decide : ∀ u : Fin 8, u ≠ 0 → tog (par u) (low u) = u) u hu]
  iintro H; iexists f; iexact H

/-- What lands in a landing area. -/
theorem landed_eq (c : Dev nD) (q : Fin 8) (t : Fin 4) {N : ℕ} {off : Fin 2 → ℕ} {off' : Fin 4 → ℕ} {inb inb' h} (hN : N = rows (nn t))
    (hoff : off = ![rowOff c q (sendv t) (nn t), 128 * q.val]) (hoff' : off' = ![q.val, t.val, 0, 0]) (fd : RIdx → Elt F .bf16) :
    rPts (nbr q t c) (RV q t) ((rView N off' inb' h).view.write (Elt F) fd ((oView N off inb).view.read (Elt F) (V X t.val c)) Finset.univ)
      = den X (nbr q t c) q (.rb t true) := by
  rw [den_rb]
  refine pointsTo_congr fun i hi => ?_
  rw [land_r hoff hoff' fd _ (by rw [rRect_set hN hoff']; exact hi)]
  show _ = V X t.val (nbr q t (nbr q t c)) _
  rw [nbr_nbr, rowOff_send]

/-- A piece is its two halves. -/
theorem cut (c : Dev nD) {S : Finset OIdx} (A B : Finset OIdx) (hS : S = A ∪ B) (h : Disjoint A B) (f : OIdx → Elt F .bf16) :
    oPts c S fullShare f ⊢ iprop(oPts c A fullShare f ∗ oPts c B fullShare f) := by
  subst hS; exact oPts_union c h fullShare f

theorem split_peers (c : Dev nD) (q : Fin 8) (t : Fin 4) (f : OIdx → Elt F .bf16) :
    iprop(den X (nbr q t c) q (.rb t true) ∗ oPts c (R c q (sendv t) (nn t)) fullShare f) ⊢ bigSep (hands (.rsR t)) (den X (nbr q t c) q) := by
  match t with
  | 0 =>
    show _ ⊢ bigSep ({.rb 0 true, .peer 1, .peer 3, .peer 5, .peer 7} : Finset Atom) _
    rw [bigSep_insert (by decide), bigSep_insert (by decide), bigSep_insert (by decide), bigSep_insert (by decide), bigSep_singleton]
    show _ ⊢ iprop(_ ∗ _ ∗ _ ∗ _ ∗ _)
    iintro ⟨H0, H⟩
    ihave H := (cut c (S := R c q (sendv 0) (nn 0)) (R c q 1 2) (R c q 3 2) (R_split c q 1 1) (R_disj c q 1 1) f) $$ H
    icases H with ⟨H1, H2⟩
    ihave H1 := (cut c (S := R c q 1 2) (R c q 1 3) (R c q 5 3) (R_split c q 1 2) (R_disj c q 1 2) f) $$ H1
    ihave H2 := (cut c (S := R c q 3 2) (R c q 3 3) (R c q 7 3) (R_split c q 3 2) (R_disj c q 3 2) f) $$ H2
    icases H1 with ⟨H1, H5⟩
    icases H2 with ⟨H3, H7⟩
    isplitl [H0]; · iexact H0
    isplitl [H1]; · iapply (peer_of X c q 1 (by decide) f); iexact H1
    isplitl [H3]; · iapply (peer_of X c q 3 (by decide) f); iexact H3
    isplitl [H5]; · iapply (peer_of X c q 5 (by decide) f); iexact H5
    iapply (peer_of X c q 7 (by decide) f); iexact H7
  | 1 =>
    show _ ⊢ bigSep ({.rb 1 true, .peer 2, .peer 6} : Finset Atom) _
    rw [bigSep_insert (by decide), bigSep_insert (by decide), bigSep_singleton]
    show _ ⊢ iprop(_ ∗ _ ∗ _)
    iintro ⟨H0, H⟩
    ihave H := (cut c (S := R c q (sendv 1) (nn 1)) (R c q 2 3) (R c q 6 3) (R_split c q 2 2) (R_disj c q 2 2) f) $$ H
    icases H with ⟨H2, H6⟩
    isplitl [H0]; · iexact H0
    isplitl [H2]; · iapply (peer_of X c q 2 (by decide) f); iexact H2
    iapply (peer_of X c q 6 (by decide) f); iexact H6
  | 2 =>
    show _ ⊢ bigSep ({.rb 2 true, .peer 4} : Finset Atom) _
    rw [bigSep_insert (by decide), bigSep_singleton]
    show _ ⊢ iprop(_ ∗ _)
    iintro ⟨H0, H⟩
    isplitl [H0]; · iexact H0
    iapply (peer_of X c q 4 (by decide) f); iexact H
  | 3 =>
    show _ ⊢ bigSep ({.rb 3 true} : Finset Atom) _
    rw [bigSep_singleton]
    iintro ⟨H0, -⟩
    iexact H0

/-- The piece sent, out of what is held before. -/
theorem sent_split (c : Dev nD) (q : Fin 8) (t : Fin 4) :
    den X c q (sent t) ⊢ iprop(oPts c (R c q (sendv t) (nn t)) fullShare (V X t.val c) ∗ bigSep (kept t) (den X c q)) := by
  match t with
  | 0 =>
    show oPts c (R c q 1 1) fullShare (V X 0 c) ⊢ iprop(oPts c (R c q 1 1) fullShare (V X 0 c) ∗ bigSep (∅ : Finset Atom) _)
    rw [bigSep_empty]; iintro H; isplitl [H]; · iexact H
    iempintro
  | 1 =>
    show oPts c (R c q 0 1) fullShare (V X 1 c) ⊢ iprop(oPts c (R c q 2 2) fullShare (V X 1 c) ∗ bigSep ({Atom.val 1 0 2} : Finset Atom) (den X c q))
    rw [bigSep_singleton, den_val]
    refine (cut c (R c q 0 2) (R c q 2 2) (R_split c q 0 1) (R_disj c q 0 1) _).trans ?_
    iintro ⟨H1, H2⟩; isplitl [H2]; · iexact H2
    iexact H1
  | 2 =>
    show oPts c (R c q 0 2) fullShare (V X 2 c) ⊢ iprop(oPts c (R c q 4 3) fullShare (V X 2 c) ∗ bigSep ({Atom.val 2 0 3} : Finset Atom) (den X c q))
    rw [bigSep_singleton, den_val]
    refine (cut c (R c q 0 3) (R c q 4 3) (R_split c q 0 2) (R_disj c q 0 2) _).trans ?_
    iintro ⟨H1, H2⟩; isplitl [H2]; · iexact H2
    iexact H1
  | 3 =>
    show oPts c (R c q 0 3) fullShare (V X 3 c) ⊢ iprop(oPts c (R c q 0 3) fullShare (V X 3 c) ∗ bigSep (∅ : Finset Atom) _)
    rw [bigSep_empty]; iintro H; isplitl [H]; · iexact H
    iempintro

/-- A finished chunk that has arrived, divided as it will be sent on. -/
theorem leaf_hands (d : Dev nD) (q u : Fin 8) : den X d q (.leaf u) ⊢ bigSep (hands (.agR u)) (den X d q) := by
  have e : ∀ w : Fin 8, par w = u → den X d q (.fin w) = oPts d (R d q u 3) (sh w) (V X 4 (src d q u)) := fun w hw => by rw [den_fin, hw]
  by_cases h2 : u = 2
  · subst h2
    show _ ⊢ bigSep ({.fin 3} : Finset Atom) _
    rw [bigSep_singleton, e 3 (by decide)]; exact BI.Entails.refl _
  by_cases h4 : u = 4
  · subst h4
    show _ ⊢ bigSep ({.fin 6, .fin 5} : Finset Atom) _
    rw [bigSep_insert (by decide), bigSep_singleton, e 6 (by decide), e 5 (by decide)]
    exact oPts_halve d _ fullShare _
  by_cases h6 : u = 6
  · subst h6
    show _ ⊢ bigSep ({.fin 7} : Finset Atom) _
    rw [bigSep_singleton, e 7 (by decide)]; exact BI.Entails.refl _
  rw [show hands (.agR u) = {.leaf u} by unfold hands; dsimp only; rw [if_neg h2, if_neg h4, if_neg h6], bigSep_singleton]

/-- What lands in the place of a chunk. -/
theorem landed_chunk (c : Dev nD) (q u : Fin 8) (hu : u ≠ 0) {N : ℕ} {off : Fin 2 → ℕ} {inb inb'} (hN : N = rows 3)
    (hoff : off = ![rowOff c q (par u) 3, 128 * q.val]) (fd : OIdx → Elt F .bf16) :
    oPts (nbr q (low u) c) (R c q (par u) 3) fullShare
        ((oView N off inb).view.write (Elt F) fd ((oView N off inb').view.read (Elt F) (V X 4 (src c q (par u)))) Finset.univ)
      = den X (nbr q (low u) c) q (.leaf u) := by
  rw [den_leaf, R_nbr c q u (low_lt u), tog_par u hu, src_nbr c q u hu]
  exact pointsTo_congr fun i hi => land_o fd _ (by rw [oRect_set hN hoff]; exact hi)

/-! ## Transfers -/

section Send

theorem oView_pts (c : Dev nD) (N : ℕ) (off : Fin 2 → ℕ) (inb) {S : Finset OIdx} (hS : (oRect N off inb).set = S) (q : PosShare TreeShare) (f : OIdx → Elt F .bf16) :
    ((oView N off inb).view.loc (c : Thread nD τ) ↦[(oView N off inb).view.set]{q} f : sProp 𝕄) = oPts c S q f := by
  subst hS
  exact congrArg (fun T : Finset OIdx => ((oM : Memref sig .tc .vmem S2048x1024 .bf16).view.loc (c : Thread nD τ) ↦[T]{q} f : sProp 𝕄)) (oView_set N off inb)
theorem rView_pts (c : Dev nD) (N : ℕ) (off : Fin 4 → ℕ) (inb h) {S : Finset RIdx} (hS : (rRect N off inb).set = S) (f : RIdx → Elt F .bf16) :
    ((rView N off inb h).view.loc (c : Thread nD τ) ↦[(rView N off inb h).view.set]{fullShare} f : sProp 𝕄) = rPts c S f := by
  subst hS
  exact congrArg (fun T : Finset RIdx => ((rM : Memref sig .tc .vmem S8x4x1024x128 .bf16).view.loc (c : Thread nD τ) ↦[T]{fullShare} f : sProp 𝕄)) (rView_set N off inb h)

/-- A summing step's transfer: the rows sent become the receiver's, who sends finished rows back there; in the last step
    they come back. -/
theorem send_rs (c n : Dev nD) (q : Fin 8) (t : Fin 4) (hn : n = nbr q t c) {N : ℕ} {off : Fin 2 → ℕ} {off' : Fin 4 → ℕ} {inb inb' h}
    (hN : N = rows (nn t)) (hoff : off = ![rowOff c q (sendv t) (nn t), 128 * q.val]) (hoff' : off' = ![q.val, t.val, 0, 0])
    {hsc : (rView N off' inb' h : Memref sig (Dev.tc n : Thread nD τ).2.kind .vmem (S2 N) .bf16).view.ref.isScScratch = false}
    {hsrc : (oView N off inb).view.WordExact} {hdst : (rView N off' inb' h).view.WordExact}
    {hsem : DmaTarget.Typed .vmem (.dma (dsem q (.rsR t))) (.remote (Dev.tc n : Thread nD τ) (rView N off' inb' h) (.dma (dsem q (.rsS t))) hsc)}
    {α : Type} {k : PUnit → Prog (TpuEff nD τ sig (Elt F) Λ₀ .tc) α} {Q : α → sProp 𝕄}
    (hA : (rView N off' inb' h).view.amount (.dma (dsem q (.rsR t))) = 8 * rows (nn t))
    (fn : RIdx → Elt F .bf16) (O₀ O : CellTallies nD τ sig Unit) (hO : O₀ = O + tallyAt (dcell (nbr q t c) q (.rsR t)) () (8 * rows (nn t))) (W : Waits sig Unit) :
    iprop(cellInv ER (Rd X) (K (c, some (q, .rsS t))) (dcell c q (.rsS t)) ∗ cellInv ER (Rd X) (K (nbr q t c, some (q, .rsR t))) (dcell (nbr q t c) q (.rsR t))
        ∗ oPts c (R c q (sendv t) (nn t)) fullShare (V X t.val c) ∗ rPts (nbr q t c) (RV q t) fn
        ∗ owes (c : Thread nD τ) O₀ W
        ∗ dutyTok ER (dcell c q (.rsS t)) 0 (0 : Fin 4) ∗ reached ER (dcell c q (.rsS t)) 0
        ∗ dutyTok ER (dcell (nbr q t c) q (.rsR t)) 0 (0 : Fin 4) ∗ reached ER (dcell (nbr q t c) q (.rsR t)) 0)
      ⊢ iprop(((cred (tallyAt (dcell c q (.rsS t)) () (8 * rows (nn t))) ∗ owes (c : Thread nD τ) O W) -∗ WP c (k ⟨⟩) Q)
          -∗ WP c (.op (.enqueueDma (oView N off inb) (.remote (Dev.tc n : Thread nD τ) (rView N off' inb' h) (.dma (dsem q (.rsS t))) hsc) (.dma (dsem q (.rsR t))) hsrc hdst hsem) k) Q) := by
  subst hn
  have hs : ∀ f, _ := oView_pts (F := F) c N off inb (oRect_set hN hoff) fullShare
  have hd : ∀ f, _ := rView_pts (F := F) (nbr q t c) N off' inb' h (rRect_set hN hoff')
  have h1 : (0 : Fin 4) ∈ (Rd X).duties (dcell c q (.rsS t)) 0 := by rw [duties_d X c q _ rfl]; exact Finset.mem_singleton_self _
  have h2 : (0 : Fin 4) ∈ (Rd X).duties (dcell (nbr q t c) q (.rsR t)) 0 := by rw [duties_d X _ q _ rfl]; exact Finset.mem_singleton_self _
  rw [← hs, ← hd]
  by_cases h3 : t = 3
  · refine Rounds.wp_send_pointsTo 𝒱₀ ER (Rd X) (c : Thread nD τ) none (c' := (nbr q t c : Thread nD τ)) (src := oView N off inb) (dst := rView N off' inb' h)
      (q := fullShare) (fs := V X t.val c) (fd := fn) (r₁ := 0) (r₂ := 0) (d₁ := (0 : Fin 4)) (d₂ := (0 : Fin 4)) h1 h2
      () () (8 * rows (nn t)) hA (amount_d X c q _ 0 0) (amount_d X (nbr q t c) q _ 0 0) O hO (W := W) ?_ ?_
    · rw [hs, payload_d]; subst h3; show _ ⊢ bigSep ({.val 3 0 3} : Finset Atom) _; rw [bigSep_singleton]; exact BI.Entails.refl _
    · rw [hd, payload_d, landed_eq X c q t hN hoff hoff']; subst h3; show _ ⊢ bigSep ({.rb 3 true} : Finset Atom) _; rw [bigSep_singleton]
  · refine Rounds.wp_send_landing_pointsTo 𝒱₀ ER (Rd X) (c : Thread nD τ) none (c' := (nbr q t c : Thread nD τ)) (src := oView N off inb) (dst := rView N off' inb' h)
      (q := fullShare) (fs := V X t.val c) (fd := fn) (r₁ := 0) (r₂ := 0) (d₁ := (0 : Fin 4)) (d₂ := (0 : Fin 4)) h1 h2
      () () (8 * rows (nn t)) hA (amount_d X c q _ 0 0) (amount_d X (nbr q t c) q _ 0 0) O hO (W := W) ?_ ?_
    · rw [payload_d, show hands (.rsS t) = ∅ from if_neg h3, bigSep_empty]; exact BI.Entails.refl _
    · rw [hd, hs, payload_d, landed_eq X c q t hN hoff hoff']; exact split_peers X c q t _

/-- The transfer of a finished chunk. -/
theorem send_ag (c n : Dev nD) (q u : Fin 8) (hu : u ≠ 0) (hn : n = nbr q (low u) c) {N : ℕ} {off : Fin 2 → ℕ} {inb inb'}
    (hN : N = rows 3) (hoff : off = ![rowOff c q (par u) 3, 128 * q.val])
    {hsc : (oView N off inb' : Memref sig (Dev.tc n : Thread nD τ).2.kind .vmem (S2 N) .bf16).view.ref.isScScratch = false}
    {hsrc : (oView N off inb).view.WordExact} {hdst : (oView N off inb').view.WordExact}
    {hsem : DmaTarget.Typed .vmem (.dma (dsem q (.agR u))) (.remote (Dev.tc n : Thread nD τ) (oView N off inb') (.dma (dsem q (.agS u))) hsc)}
    {α : Type} {k : PUnit → Prog (TpuEff nD τ sig (Elt F) Λ₀ .tc) α} {Q : α → sProp 𝕄}
    (hA : (oView N off inb').view.amount (.dma (dsem q (.agR u))) = 2048)
    (fn : OIdx → Elt F .bf16) (O₀ O : CellTallies nD τ sig Unit) (hO : O₀ = O + tallyAt (dcell (nbr q (low u) c) q (.agR u)) () 2048) (W : Waits sig Unit) :
    iprop(cellInv ER (Rd X) (K (c, some (q, .agS u))) (dcell c q (.agS u)) ∗ cellInv ER (Rd X) (K (nbr q (low u) c, some (q, .agR u))) (dcell (nbr q (low u) c) q (.agR u))
        ∗ oPts c (R c q (par u) 3) (sh u) (V X 4 (src c q (par u))) ∗ oPts (nbr q (low u) c) (R c q (par u) 3) fullShare fn
        ∗ owes (c : Thread nD τ) O₀ W
        ∗ dutyTok ER (dcell c q (.agS u)) 0 (0 : Fin 4) ∗ reached ER (dcell c q (.agS u)) 0
        ∗ dutyTok ER (dcell (nbr q (low u) c) q (.agR u)) 0 (0 : Fin 4) ∗ reached ER (dcell (nbr q (low u) c) q (.agR u)) 0)
      ⊢ iprop(((cred (tallyAt (dcell c q (.agS u)) () 2048) ∗ owes (c : Thread nD τ) O W) -∗ WP c (k ⟨⟩) Q)
          -∗ WP c (.op (.enqueueDma (oView N off inb) (.remote (Dev.tc n : Thread nD τ) (oView N off inb') (.dma (dsem q (.agS u))) hsc) (.dma (dsem q (.agR u))) hsrc hdst hsem) k) Q) := by
  subst hn
  have hl : live (.agS u) = true ∧ live (.agR u) = true := ⟨decide_eq_true hu, decide_eq_true hu⟩
  have hs : ∀ f, _ := oView_pts (F := F) c N off inb (oRect_set hN hoff) (sh u)
  have hd : ∀ f, _ := oView_pts (F := F) (nbr q (low u) c) N off inb' (oRect_set hN hoff) fullShare
  have h1 : (0 : Fin 4) ∈ (Rd X).duties (dcell c q (.agS u)) 0 := by rw [duties_d X c q _ hl.1]; exact Finset.mem_singleton_self _
  have h2 : (0 : Fin 4) ∈ (Rd X).duties (dcell (nbr q (low u) c) q (.agR u)) 0 := by rw [duties_d X _ q _ hl.2]; exact Finset.mem_singleton_self _
  rw [← hs, ← hd]
  refine Rounds.wp_send_pointsTo 𝒱₀ ER (Rd X) (c : Thread nD τ) none (c' := (nbr q (low u) c : Thread nD τ)) (src := oView N off inb) (dst := oView N off inb')
    (q := sh u) (fs := V X 4 (src c q (par u))) (fd := fn) (r₁ := 0) (r₂ := 0) (d₁ := (0 : Fin 4)) (d₂ := (0 : Fin 4)) h1 h2
    () () 2048 hA (amount_d X c q _ 0 0) (amount_d X (nbr q (low u) c) q _ 0 0) O hO (W := W) ?_ ?_
  · rw [hs, payload_d, show hands (.agS u) = {.fin u} from rfl, bigSep_singleton, den_fin]
  · rw [hd, payload_d, landed_chunk X c q u hu hN hoff]; exact leaf_hands X _ q u

section
variable (c : Dev nD) (q : Fin 8)
theorem tok_own (k : CK) (h : tokDev c q k = c) : den X c q (.tk k) = dutyTok ER (dcell c q k) 0 (0 : Fin 4) := by rw [den_tk, h]
theorem tok_rsR (t : Fin 4) : den X c q (.tk (.rsR t)) = dutyTok ER (dcell (nbr q t c) q (.rsR t)) 0 (0 : Fin 4) := rfl
theorem tok_agR (u : Fin 8) : den X c q (.tk (.agR u)) = dutyTok ER (dcell (nbr q (low u) c) q (.agR u)) 0 (0 : Fin 4) := rfl
theorem rec_inv_d (k : CK) : records X K ⊢ cellInv ER (Rd X) (K (c, some (q, k))) (dcell c q k) := rec_inv X K c (some (q, k))
theorem rec_reached_d (k : CK) : records X K ⊢ reached ER (dcell c q k) 0 := rec_reached X K c (some (q, k))
end

theorem post_rsSend (Φ : Atom → sProp 𝕄) (t : Fin 4) : bigSep (post (.rsSend t)) Φ = iprop(Φ (.cr (.rsS t)) ∗ bigSep (kept t) Φ) := by
  show bigSep ({.cr (.rsS t)} ∪ kept t) Φ = _
  rw [bigSep_union (by revert t; decide), bigSep_singleton]; rfl
theorem post_agSend (Φ : Atom → sProp 𝕄) (u : Fin 8) : bigSep (post (.agSend u)) Φ = Φ (.cr (.agS u)) := bigSep_singleton
theorem post_wait (Φ : Atom → sProp 𝕄) (k : CK) : bigSep (post (.wait k)) Φ = iprop(Φ (.z k) ∗ bigSep (hands k) Φ) := by
  show bigSep ({.z k} ∪ hands k) Φ = _
  rw [bigSep_union (by revert k; decide), bigSep_singleton]; rfl

theorem step_rsSend (c : Dev nD) {p N : ℕ} {off : Dev nD → Fin 2 → ℕ} {off' : Fin 4 → ℕ} {inb inb' h} {n : Dev nD → Dev nD} {s₁ s₂ : DmaSem sig}
    {hsc : (rView N off' inb' h : Memref sig (Dev.tc (n c) : Thread nD τ).2.kind .vmem (S2 N) .bf16).view.ref.isScScratch = false}
    {hsrc : (oView N (off c) inb).view.WordExact} {hdst : (rView N off' inb' h).view.WordExact}
    {hsem : DmaTarget.Typed .vmem (.dma s₂) (.remote (Dev.tc (n c) : Thread nD τ) (rView N off' inb' h) (.dma s₁) hsc)}
    {α : Type} {k : PUnit → Prog (TpuEff nD τ sig (Elt F) Λ₀ .tc) α} {Q : α → sProp 𝕄}
    (hop : opAt p = some (qAt p, .rsSend (tAt p))) (hs : sendAt (qAt p) (.rsR (tAt p)) = p)
    (hN : N = rows (nn (tAt p))) (hn : ∀ d, n d = nbr (qAt p) (tAt p) d)
    (hoff : ∀ d, off d = ![rowOff d (qAt p) (sendv (tAt p)) (nn (tAt p)), 128 * (qAt p).val]) (hoff' : off' = ![(qAt p).val, (tAt p).val, 0, 0])
    (hs₁ : s₁ = dsem (qAt p) (.rsS (tAt p))) (hs₂ : s₂ = dsem (qAt p) (.rsR (tAt p)))
    (hA : (rView N off' inb' h).view.amount (.dma s₂) = 8 * rows (nn (tAt p)))
    (hk : St X K c (p + 1) ⊢ WP c (k ⟨⟩) Q) :
    St X K c p ⊢ WP c (Prog.lift (.enqueueDma (oView N (off c) inb) (.remote (Dev.tc (n c) : Thread nD τ) (rView N off' inb' h) (.dma s₁) hsc) (.dma s₂) hsrc hdst hsem) >>= k) Q := by
  rw [Prog.bind_lift]
  subst hs₁ hs₂
  have ho := owed_send c hop (k := .rsR (tAt p)) rfl ((by decide : ∀ t, CK.rsR t ∈ recvKeys) _) hs
  have hc := St_close X K c hop
  generalize hq : qAt p = q at *
  generalize ht : tAt p = t at *
  refine (St_open X K c hop).trans ?_
  rw [pre_rsSend, den_prs, tok_own X c q (.rsS t) rfl, tok_rsR]
  iintro ⟨#HR, Hlv, ⟨%W, HO⟩, Hx, ⟨Hs, ⟨%fn, Hp⟩, Ht1, Ht2⟩, Hrest⟩
  ihave Hs := (sent_split X c q t) $$ Hs
  icases Hs with ⟨Hs, Hkept⟩
  iapply (send_rs X K c (n c) q t (hn c) hN (hoff c) hoff' hA fn _ _ ho W) $$ [Hs Hp HO Ht1 Ht2]
  · isplitr; · iapply (rec_inv_d X K c q (.rsS t)); iexact HR
    isplitr; · iapply (rec_inv_d X K (nbr q t c) q (.rsR t)); iexact HR
    isplitl [Hs]; · iexact Hs
    isplitl [Hp]; · iexact Hp
    isplitl [HO]; · iexact HO
    isplitl [Ht1]; · iexact Ht1
    isplitr; · iapply (rec_reached_d X K c q (.rsS t)); iexact HR
    isplitl [Ht2]; · iexact Ht2
    iapply (rec_reached_d X K (nbr q t c) q (.rsR t)); iexact HR
  iintro ⟨Hcr, HO⟩
  iapply hk; iapply hc
  rw [post_rsSend, den_cr]
  isplitr; · iexact HR
  isplitl [Hlv]; · iexact Hlv
  isplitl [HO]; · iexists W; iexact HO
  isplitl [Hx]; · iexact Hx
  isplitl [Hcr Hkept]
  · isplitl [Hcr]; · iexact Hcr
    iexact Hkept
  iexact Hrest

theorem step_agSend (c : Dev nD) {p N : ℕ} {off : Dev nD → Fin 2 → ℕ} {inb inb'} {n : Dev nD → Dev nD} {s₁ s₂ : DmaSem sig}
    {hsc : (oView N (off c) inb' : Memref sig (Dev.tc (n c) : Thread nD τ).2.kind .vmem (S2 N) .bf16).view.ref.isScScratch = false}
    {hsrc : (oView N (off c) inb).view.WordExact} {hdst : (oView N (off c) inb').view.WordExact}
    {hsem : DmaTarget.Typed .vmem (.dma s₂) (.remote (Dev.tc (n c) : Thread nD τ) (oView N (off c) inb') (.dma s₁) hsc)}
    {α : Type} {k : PUnit → Prog (TpuEff nD τ sig (Elt F) Λ₀ .tc) α} {Q : α → sProp 𝕄}
    (hop : opAt p = some (qAt p, .agSend (uAt p)) ∧ uAt p ≠ 0) (hs : sendAt (qAt p) (.agR (uAt p)) = p)
    (hN : N = rows 3) (hn : ∀ d, n d = nbr (qAt p) (low (uAt p)) d)
    (hoff : ∀ d, off d = ![rowOff d (qAt p) (par (uAt p)) 3, 128 * (qAt p).val])
    (hs₁ : s₁ = dsem (qAt p) (.agS (uAt p))) (hs₂ : s₂ = dsem (qAt p) (.agR (uAt p)))
    (hA : (oView N (off c) inb').view.amount (.dma s₂) = 2048)
    (hk : St X K c (p + 1) ⊢ WP c (k ⟨⟩) Q) :
    St X K c p ⊢ WP c (Prog.lift (.enqueueDma (oView N (off c) inb) (.remote (Dev.tc (n c) : Thread nD τ) (oView N (off c) inb') (.dma s₁) hsc) (.dma s₂) hsrc hdst hsem) >>= k) Q := by
  rw [Prog.bind_lift]
  subst hs₁ hs₂
  obtain ⟨hop, hu⟩ := hop
  have ho := owed_send c hop (k := .agR (uAt p)) rfl ((by decide : ∀ u, u ≠ 0 → CK.agR u ∈ recvKeys) _ hu) hs
  have hc := St_close X K c hop
  generalize hq : qAt p = q at *
  generalize ht : uAt p = u at *
  refine (St_open X K c hop).trans ?_
  rw [pre_agSend, den_fin, den_peer, tok_own X c q (.agS u) rfl, tok_agR]
  iintro ⟨#HR, Hlv, ⟨%W, HO⟩, Hx, ⟨Hs, ⟨%fn, Hp⟩, Ht1, Ht2⟩, Hrest⟩
  iapply (send_ag X K c (n c) q u hu (hn c) hN (hoff c) hA fn _ _ ho W) $$ [Hs Hp HO Ht1 Ht2]
  · isplitr; · iapply (rec_inv_d X K c q (.agS u)); iexact HR
    isplitr; · iapply (rec_inv_d X K (nbr q (low u) c) q (.agR u)); iexact HR
    isplitl [Hs]; · iexact Hs
    isplitl [Hp]; · iexact Hp
    isplitl [HO]; · iexact HO
    isplitl [Ht1]; · iexact Ht1
    isplitr; · iapply (rec_reached_d X K c q (.agS u)); iexact HR
    isplitl [Ht2]; · iexact Ht2
    iapply (rec_reached_d X K (nbr q (low u) c) q (.agR u)); iexact HR
  iintro ⟨Hcr, HO⟩
  iapply hk; iapply hc
  rw [post_agSend, den_cr]
  isplitr; · iexact HR
  isplitl [Hlv]; · iexact Hlv
  isplitl [HO]; · iexists W; iexact HO
  isplitl [Hx]; · iexact Hx
  isplitl [Hcr]; · iexact Hcr
  iexact Hrest

end Send

/-! ## Waits -/

theorem step_wait (c : Dev nD) {p : ℕ} {sem : DmaSem sig} {sp sp' : Space} {s : Shape} {e : EltTy} {src : Memref sig .tc sp s e} {dst : Memref sig .tc sp' s e} {h1 h2}
    {α : Type} {k : PUnit → Prog (TpuEff nD τ sig (Elt F) Λ₀ .tc) α} {Q : α → sProp 𝕄}
    (hop : opAt p = some (qAt p, .wait (kAt p)) ∧ live (kAt p) = true) (hsem : sem = dsem (qAt p) (kAt p))
    (hA : dst.view.dmaCredit = amt (kAt p))
    (hlev : ∀ q, ∀ k' ∈ recvKeys, p + 1 ≤ sendAt q k' → clv (kAt p) < clv k')
    (hk : St X K c (p + 1) ⊢ WP c (k ⟨⟩) Q) :
    St X K c p ⊢ WP c (Prog.lift (.waitDma2 sem src dst h1 h2) >>= k) Q := by
  rw [Prog.bind_lift]
  subst hsem
  obtain ⟨hop, hl⟩ := hop
  have ho := owed_other c hop rfl
  have hc := St_close X K c hop
  generalize hq : qAt p = q at *
  generalize ht : kAt p = kk at *
  refine (St_open X K c hop).trans ?_
  rw [pre_wait, den_cr, den_pos, ho]
  iintro ⟨#HR, #Hlv, ⟨%W, HO⟩, Hx, ⟨Hcr, Hpos⟩, Hrest⟩
  rw [← hA]
  iapply (Rounds.wp_wait_rest_token 𝒱₀ ER (Rd X) (c : Thread nD τ) none (κ := K (c, some (q, kk)))
      (wpE_waitDma2_eq 𝒱₀ (c : Thread nD τ) none Set.univ) (Set.mem_univ _) () (O := owed c (p + 1)) (W := W) (R := 0) (m := 0) (T := ∅)
      (by rw [Nat.zero_add, expect_d X c q kk hl]; exact hA)) $$ [Hcr HO Hpos]
  · isplitr; · iapply (rec_inv_d X K c q kk); iexact HR
    isplitl [Hcr]; · iexact Hcr
    isplitl [HO]; · iexact HO
    isplitr; · iapply (mayWait_of c (p + 1) _ (clv kk) (lv_d c q kk ()) hlev); iexact Hlv
    iexact Hpos
  iintro ⟨HO, Hpos, -, Hpay⟩
  ihave Hpay := (Entails.of_eq (rest_d X c q kk hl)) $$ Hpay
  imod (Rounds.cell_close ER (Rd X) (Set.mem_univ (K (c, some (q, kk)))) (fun h => h) (R := 0 + 1) (duties_later X (dcell c q kk))) $$ [Hpos] with Hz
  · isplitr; · iapply (rec_inv_d X K c q kk); iexact HR
    iexact Hpos
  iapply hk; iapply hc
  rw [post_wait, den_z]
  isplitr; · iexact HR
  isplitr; · iexact Hlv
  isplitl [HO]; · iexists _; iexact HO
  isplitl [Hx]; · iexact Hx
  isplitl [Hz Hpay]
  · isplitl [Hz]; · iexact Hz
    iexact Hpay
  iexact Hrest

end Cert.Exchange

end
-- ==== Proof.Control.lean ====
/-
  The barrier, and how a program's parts are put together.
-/
module

public import proofs.«01_k».proof.Proof.Comm

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Blocks F) (K : Dev nD × Key → ℕ)

/-! ## The barrier -/

/-- Two sums over strips and steps may be exchanged. -/
theorem bigSep_swap {A B : Type} [Fintype A] [Fintype B] (Φ : A → B → sProp 𝕄) :
    bigSep Finset.univ (fun a => bigSep Finset.univ fun b => Φ a b) = bigSep Finset.univ (fun b => bigSep Finset.univ fun a => Φ a b) := by
  rw [← bigSep_univ_prod (fun x : A × B => Φ x.1 x.2), bigSep_univ_equiv (Equiv.prodComm B A) (fun x : A × B => Φ x.1 x.2),
    bigSep_univ_prod]
  rfl

def invEquiv (q : Fin 8) : Fin 4 ≃ Fin 4 := ⟨inv q, ord q, ord_inv q, inv_ord q⟩

theorem post_bar (Φ : Atom → sProp 𝕄) : bigSep (post .bar) Φ = bigSep Finset.univ fun t : Fin 4 => Φ (.prs t) := by
  rw [show post .bar = Finset.univ.image Atom.prs by decide]
  exact bigSep_image_of_injOn (fun a _ b _ h => by cases h; rfl) Φ

theorem barPay_prs (c : Dev nD) (d : Fin 4) : barPay (F := F) c d = bigSep Finset.univ fun q => den X c q (.prs (inv q d)) := by
  unfold barPay
  refine bigSep_congr fun q _ => ?_
  rw [den_prs]; unfold nbr; rw [ord_inv]

theorem bar_gives (c : Dev nD) : bigSep Finset.univ (barPay (F := F) c) = bigSep Finset.univ fun q : Fin 8 => bigSep (post .bar) (den X c q) := by
  rw [bigSep_congr fun d _ => barPay_prs X c d, bigSep_swap]
  refine bigSep_congr fun q _ => ?_
  exact (bigSep_univ_equiv (invEquiv q) (fun t => den X c q (.prs t))).symm.trans (post_bar (den X c q)).symm

/-- What a device owes with the signals in the directions from `m` on still to be sent. -/
def owedS (c : Dev nD) (m : ℕ) : CellTallies nD τ sig Unit :=
  owed c 0 + ∑ d ∈ Finset.univ.filter (fun d : Fin 4 => m ≤ d.val), tallyAt (barCell (flip d c)) () 1

/-- The state with the signals in the directions from `m` on still to be sent. -/
def Sg (c : Dev nD) (m : ℕ) : sProp 𝕄 :=
  iprop(records X K ∗ levAts L lv ∗ (∃ W, owes (c : Thread nD τ) (owedS c m) W)
    ∗ (bigSep (Finset.univ.filter fun d : Fin 4 => m ≤ d.val) fun d => iprop(dutyTok ER (barCell (flip d c)) 0 d ∗ barPay (flip d c) d))
    ∗ barPart c 0 ∗ xPts c (X c) ∗ strips X c 0)

theorem from_succ : ∀ d : Fin 4, (Finset.univ.filter fun d' : Fin 4 => d.val ≤ d'.val) = insert d (Finset.univ.filter fun d' : Fin 4 => d.val + 1 ≤ d'.val)
    ∧ d ∉ Finset.univ.filter fun d' : Fin 4 => d.val + 1 ≤ d'.val := by decide

theorem owedS_succ (c : Dev nD) (d : Fin 4) : owedS c d.val = owedS c (d.val + 1) + tallyAt (barCell (flip d c)) () 1 := by
  unfold owedS
  rw [(from_succ d).1, Finset.sum_insert (from_succ d).2, add_comm (tallyAt _ _ _), add_assoc]

section
variable {α : Type}

theorem step_sig (c : Dev nD) {Q : α → sProp 𝕄} (d : Fin 4) {n : Dev nD → Dev nD} {s : Sem sig} {k : PUnit → Prog (TpuEff nD τ sig (Elt F) Λ₀ .tc) α}
    (hn : ∀ c, n c = flip d c) (hs : s = barS) (h : Sg X K c (d.val + 1) ⊢ WP c (k ⟨⟩) Q) :
    Sg X K c d.val ⊢ WP c (semSignalWord (n c) s 1#32 >>= k) Q := by
  subst hs
  rw [hn c]
  refine BIBase.Entails.trans ?_ (BI.Entails.refl (WP c (.op (.semSignal (flip d c : Thread nD τ) barS (1 : ℤ)) k) Q))
  have h' := h
  unfold Sg at h ⊢
  rw [owedS_succ, (from_succ d).1, bigSep_insert (from_succ d).2]
  show iprop(_ ∗ _ ∗ _ ∗ (_ ∗ _) ∗ _) ⊢ _
  iintro ⟨#HR, Hlv, ⟨%W, HO⟩, ⟨⟨Ht, Hp⟩, Hr⟩, H⟩
  iapply (Rounds.wp_signal 𝒱₀ ER (Rd X) (c : Thread nD τ) none (dst := (flip d c : Thread nD τ)) (κ := K (flip d c, none))
      (d := d) (by rw [duties_bar]; exact Finset.mem_univ _) ((amount_bar X (flip d c) 0 d).trans (by decide)) () (owedS c (d.val + 1)) rfl) $$ [HO Ht Hp]
  · isplitr; · iapply (rec_inv X K (flip d c) none); iexact HR
    isplitl [HO]; · iexact HO
    isplitl [Ht]; · iexact Ht
    isplitl [Hp]; · rw [payload_bar]; iexact Hp
    iapply (rec_reached X K (flip d c) none); iexact HR
  iintro HO
  iapply h
  isplitr; · iexact HR
  isplitl [Hlv]; · iexact Hlv
  isplitl [HO]; · iexists W; iexact HO
  isplitl [Hr]; · iexact Hr
  iexact H

/-- All signals sent: the run begins. -/
theorem Sg_done (c : Dev nD) : Sg X K c 4 ⊢ St X K c 0 := by
  unfold Sg St owedS
  rw [show (Finset.univ.filter fun d : Fin 4 => 4 ≤ d.val) = ∅ by decide, Finset.sum_empty, add_zero, bigSep_empty]
  iintro ⟨H1, H2, H3, -, H⟩
  isplitl [H1]; · iexact H1
  isplitl [H2]; · iexact H2
  isplitl [H3]; · iexact H3
  iexact H

theorem step_bar (c : Dev nD) {Q : α → sProp 𝕄} {s : Sem sig} {k : PUnit → Prog (TpuEff nD τ sig (Elt F) Λ₀ .tc) α}
    (hs : s = barS) (h : St X K c 9 ⊢ WP c (k ⟨⟩) Q) :
    St X K c 8 ⊢ WP c (semWaitWord s 4#32 >>= k) Q := by
  subst hs
  refine BIBase.Entails.trans ?_ (BI.Entails.refl (WP c (.op (.semWait barS (4 : ℤ)) k) Q))
  unfold St barPart at h ⊢
  rw [if_pos (by decide), owed_bar]
  rw [if_neg (by decide)] at h
  iintro ⟨#HR, #Hlv, ⟨%W, HO⟩, ⟨Hc, Hat⟩, Hx, Hs⟩
  iapply (Rounds.wp_wait_rest_token 𝒱₀ ER (Rd X) (c : Thread nD τ) none (κ := K (c, none))
      (wpE_semWait_eq 𝒱₀ (c : Thread nD τ) none Set.univ) (Set.mem_univ _) () (O := owed c 9) (W := W) (R := 0) (m := 0) (T := ∅)
      (by rw [expect_bar])) $$ [Hc HO Hat]
  · isplitr; · iapply (rec_inv X K c none); iexact HR
    isplitl [Hc]; · iexact Hc
    isplitl [HO]; · iexact HO
    isplitr; · iapply (mayWait_of c 9 _ 1 (lv_bar c ()) (by decide +kernel)); iexact Hlv
    iexact Hat
  iintro ⟨HO, Hat, -, Hpay⟩
  ihave Hpay := (Entails.of_eq ((rest_bar X c).trans (bar_gives X c))) $$ Hpay
  imod (Rounds.cell_close ER (Rd X) (Set.mem_univ (K (c, none))) (fun h => h) (R := 0 + 1) (duties_later X (barCell c))) $$ [Hat] with Hz
  · isplitr; · iapply (rec_inv X K c none); iexact HR
    iexact Hat
  iapply h
  isplitr; · iexact HR
  isplitr; · iexact Hlv
  isplitl [HO]; · iexists _; iexact HO
  isplitl [Hz]; · iexact Hz
  isplitl [Hx]; · iexact Hx
  iapply (strips_bar X c)
  isplitl [Hs] <;> iassumption

/-! ## Putting parts together -/

theorem step_dev (c : Dev nD) {Q : α → sProp 𝕄} {P : sProp 𝕄} {k : Dev nD → Prog (TpuEff nD τ sig (Elt F) Λ₀ .tc) α} (h : P ⊢ WP c (k c) Q) :
    P ⊢ WP c (Prog.lift .deviceId >>= k) Q := by
  rw [Prog.bind_lift]
  unfold WP at h ⊢
  rw [wp_deviceId]
  exact h

/-- What a part leaves: its state and its result. -/
def Ends {α : Type} (c : Dev nD) (p : ℕ) (v : α) (x : α) : sProp 𝕄 := iprop(⌜x = v⌝ ∗ St X K c p)

theorem step_seq (c : Dev nD) {Q : α → sProp 𝕄} {β : Type} {P : sProp 𝕄} {p : ℕ} {v : β} {m : Prog (TpuEff nD τ sig (Elt F) Λ₀ .tc) β}
    {k : β → Prog (TpuEff nD τ sig (Elt F) Λ₀ .tc) α}
    (h1 : P ⊢ WP c m (Ends X K c p v)) (h2 : St X K c p ⊢ WP c (k v) Q) : P ⊢ WP c (m >>= k) Q := by
  unfold WP
  rw [wp_bind]
  refine BIBase.Entails.trans h1 (wp_mono _ _ _ fun x => ?_)
  unfold Ends
  iintro ⟨%hx, H⟩
  subst hx
  iapply h2; iexact H

theorem step_bind (c : Dev nD) {Q : α → sProp 𝕄} {β : Type} {R : β → sProp 𝕄} {P : sProp 𝕄} {m : Prog (TpuEff nD τ sig (Elt F) Λ₀ .tc) β}
    {k : β → Prog (TpuEff nD τ sig (Elt F) Λ₀ .tc) α} (h1 : P ⊢ WP c m R) (h2 : ∀ x, R x ⊢ WP c (k x) Q) : P ⊢ WP c (m >>= k) Q := by
  unfold WP
  rw [wp_bind]
  exact BIBase.Entails.trans h1 (wp_mono _ _ _ fun x => h2 x)

theorem step_pure (c : Dev nD) {Q : α → sProp 𝕄} {P : sProp 𝕄} {v : α} (h : P ⊢ Q v) : P ⊢ WP c (pure v) Q := by
  rw [Prog.pure_eq_ret]
  unfold WP
  rw [wp_ret]
  refine BIBase.Entails.trans h ?_
  iintro H; imodintro; iexact H

theorem step_done (c : Dev nD) {p : ℕ} {v : α} : St X K c p ⊢ WP c (pure v) (Ends X K c p v) := by
  refine step_pure c ?_
  unfold Ends
  iintro H; isplitr; · ipureintro; rfl
  iexact H

theorem step_last (c : Dev nD) {Q : α → sProp 𝕄} {P : sProp 𝕄} {m : Prog (TpuEff nD τ sig (Elt F) Λ₀ .tc) α} (h : P ⊢ WP c (m >>= pure) Q) : P ⊢ WP c m Q := by
  rwa [bind_pure] at h

theorem renum {c : Dev nD} {p p' : ℕ} {G : sProp 𝕄} (h : p = p') (H : St X K c p' ⊢ G) : St X K c p ⊢ G := h ▸ H

end

/-! ## Telling the operations apart

Each of these is the identity on goals whose program starts with the named operation. -/

section
variable {α : Type}

theorem is_pure {c : Dev nD} {P : sProp 𝕄} {v : α} {Q : α → sProp 𝕄} (h : P ⊢ WP c (pure v) Q) : P ⊢ WP c (pure v) Q := h
theorem last_load (c : Dev nD) {P : sProp 𝕄} {s : Shape} {e : EltTy} {m : Memref sig .tc .vmem s e} {r : LoadRect s} {hl : m.view.LoadsAt r}
    {Q : (r.shape.Idx → Elt F e) → sProp 𝕄} (h : P ⊢ WP c (Prog.lift (.load m r hl) >>= pure) Q) : P ⊢ WP c (Prog.lift (.load m r hl)) Q := by
  rwa [bind_pure] at h
theorem is_load {c : Dev nD} {P : sProp 𝕄} {s : Shape} {e : EltTy} (m : Memref sig .tc .vmem s e) {r : LoadRect s} {hl : m.view.LoadsAt r}
    {k} {Q : α → sProp 𝕄} (h : P ⊢ WP c (Prog.lift (.load m r hl) >>= k) Q) : P ⊢ WP c (Prog.lift (.load m r hl) >>= k) Q := h
theorem is_store {c : Dev nD} {P : sProp 𝕄} {s : Shape} {e : EltTy} {m : Memref sig .tc .vmem s e} {r : Rect s} {w : r.shape.Idx → Elt F e} {M hx hm}
    {k} {Q : α → sProp 𝕄} (h : P ⊢ WP c (Prog.lift (.store m r w M hx hm) >>= k) Q) : P ⊢ WP c (Prog.lift (.store m r w M hx hm) >>= k) Q := h
theorem is_wait {c : Dev nD} {P : sProp 𝕄} {sem : DmaSem sig} {sp sp' : Space} {s s' : Shape} {e e' : EltTy} {a : Memref sig .tc sp s e} {b : Memref sig .tc sp' s' e'} {h1 h2}
    {k} {Q : α → sProp 𝕄} (h : P ⊢ WP c (Prog.lift (.waitDma2 sem a b h1 h2) >>= k) Q) : P ⊢ WP c (Prog.lift (.waitDma2 sem a b h1 h2) >>= k) Q := h
theorem is_barrier {c : Dev nD} {P : sProp 𝕄} {sem : Sem sig} {n : BitVec 32}
    {k} {Q : α → sProp 𝕄} (h : P ⊢ WP c (semWaitWord sem n >>= k) Q) : P ⊢ WP c (semWaitWord sem n >>= k) Q := h

/-- The run is at a transfer of a summing step. -/
theorem at_rsSend {c : Dev nD} {p : ℕ} {G : sProp 𝕄} (h : opAt p = some (qAt p, .rsSend (tAt p))) (H : St X K c p ⊢ G) : St X K c p ⊢ G := H
/-- The run is at a transfer of a finished chunk. -/
theorem at_agSend {c : Dev nD} {p : ℕ} {G : sProp 𝕄} (h : opAt p = some (qAt p, .agSend (uAt p))) (H : St X K c p ⊢ G) : St X K c p ⊢ G := H

end

end Cert.Exchange

end
-- ==== Proof.Body.lean ====
/-
  The run of the kernel body at a device.
-/
module

public import proofs.«01_k».proof.Proof.Control

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Blocks F) (K : Dev nD × Key → ℕ)

set_option maxRecDepth 65536
set_option maxHeartbeats 0

/-- The two halves of the run, each part of the body taken as it is met. -/
theorem run_halves (c : Dev nD) :
    (Sg X K c 0 ⊢ WP c (k0_part121 (F := F) xM (Memref.isWhole_whole _) oM (Memref.isWhole_whole _)
      rM (Memref.isWhole_whole _) cc0_scratch1 cc0_scratch2 cc0_scratch3 cc0_scratch4) (fun x => iprop(⌜x.1 = c⌝ ∗ St X K c 157)))
    ∧ ∀ v2 v5 v7 v9 v11 w : BitVec 32, (St X K c 157 ⊢ WP c (k0_part122 (F := F) xM (Memref.isWhole_whole _) oM (Memref.isWhole_whole _)
      rM (Memref.isWhole_whole _) cc0_scratch1 cc0_scratch2 cc0_scratch3 cc0_scratch4
      c v2 v5 v7 v9 v11 w) (fun _ => St X K c 312)) := by
  rw [k0_part121_eq_skeleton, k0_part122_eq_skeleton]
  delta k0_part121_skel k0_part122_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton, k0_part96_eq_skeleton,
    k0_part97_eq_skeleton, k0_part98_eq_skeleton, k0_part99_eq_skeleton, k0_part100_eq_skeleton, k0_part101_eq_skeleton, k0_part102_eq_skeleton,
    k0_part103_eq_skeleton, k0_part104_eq_skeleton, k0_part105_eq_skeleton, k0_part106_eq_skeleton, k0_part107_eq_skeleton, k0_part108_eq_skeleton,
    k0_part109_eq_skeleton, k0_part110_eq_skeleton, k0_part111_eq_skeleton, k0_part112_eq_skeleton, k0_part113_eq_skeleton, k0_part114_eq_skeleton,
    k0_part115_eq_skeleton, k0_part116_eq_skeleton, k0_part117_eq_skeleton, k0_part118_eq_skeleton, k0_part119_eq_skeleton, k0_part120_eq_skeleton]
  refine ⟨?_, fun v2 v5 v7 v9 v11 w => ?_⟩
  apply step_seq X K c
  on_goal 1 => (
    delta k0_part1_skel
    apply step_dev
    dsimp only
    apply step_sig (n := fun d => ⟨k0_dev1 d, k0_dev1_lt d⟩) X K c 0; on_goal 1 => decide +kernel
    on_goal 1 => rfl
    apply step_sig (n := fun d => ⟨k0_dev2 d, k0_dev2_lt d⟩) X K c 1; on_goal 1 => decide +kernel
    on_goal 1 => rfl
    apply step_sig (n := fun d => ⟨k0_dev3 d, k0_dev3_lt d⟩) X K c 2; on_goal 1 => decide +kernel
    on_goal 1 => rfl
    apply step_sig (n := fun d => ⟨k0_dev4 d, k0_dev4_lt d⟩) X K c 3; on_goal 1 => decide +kernel
    on_goal 1 => rfl
    refine (Sg_done X K c).trans ?_
    apply step_done X K c)
  on_goal 1 => (try dsimp only)
  all_goals repeat (
    apply step_seq X K c
    on_goal 1 => (
      delta
        k0_part1_skel k0_part2_skel k0_part3_skel k0_part4_skel k0_part5_skel k0_part6_skel k0_part7_skel k0_part8_skel k0_part9_skel k0_part10_skel
        k0_part11_skel k0_part12_skel k0_part13_skel k0_part14_skel k0_part15_skel k0_part16_skel k0_part17_skel k0_part18_skel k0_part19_skel
        k0_part20_skel k0_part21_skel k0_part22_skel k0_part23_skel k0_part24_skel k0_part25_skel k0_part26_skel k0_part27_skel k0_part28_skel
        k0_part29_skel k0_part30_skel k0_part31_skel k0_part32_skel k0_part33_skel k0_part34_skel k0_part35_skel k0_part36_skel k0_part37_skel
        k0_part38_skel k0_part39_skel k0_part40_skel k0_part41_skel k0_part42_skel k0_part43_skel k0_part44_skel k0_part45_skel k0_part46_skel
        k0_part47_skel k0_part48_skel k0_part49_skel k0_part50_skel k0_part51_skel k0_part52_skel k0_part53_skel k0_part54_skel k0_part55_skel
        k0_part56_skel k0_part57_skel k0_part58_skel k0_part59_skel k0_part60_skel k0_part61_skel k0_part62_skel k0_part63_skel k0_part64_skel
        k0_part65_skel k0_part66_skel k0_part67_skel k0_part68_skel k0_part69_skel k0_part70_skel k0_part71_skel k0_part72_skel k0_part73_skel
        k0_part74_skel k0_part75_skel k0_part76_skel k0_part77_skel k0_part78_skel k0_part79_skel k0_part80_skel k0_part81_skel k0_part82_skel
        k0_part83_skel k0_part84_skel k0_part85_skel k0_part86_skel k0_part87_skel k0_part88_skel k0_part89_skel k0_part90_skel k0_part91_skel
        k0_part92_skel k0_part93_skel k0_part94_skel k0_part95_skel k0_part96_skel k0_part97_skel k0_part98_skel k0_part99_skel k0_part100_skel
        k0_part101_skel k0_part102_skel k0_part103_skel k0_part104_skel k0_part105_skel k0_part106_skel k0_part107_skel k0_part108_skel
        k0_part109_skel k0_part110_skel k0_part111_skel k0_part112_skel k0_part113_skel k0_part114_skel k0_part115_skel k0_part116_skel
        k0_part117_skel k0_part118_skel k0_part119_skel k0_part120_skel
      dsimp only
      repeat first
        | (with_reducible apply is_load xM; first
          | (apply step_load_x X K c 1; on_goal 1 => decide +kernel)
          | (apply step_load_x X K c 0; on_goal 1 => decide +kernel))
        | (with_reducible apply is_load oM; first
          | (apply step_load_sum X K c; (iterate 3 (on_goal 1 => decide +kernel)))
          | (apply step_load_send X K c; (iterate 3 (on_goal 1 => decide +kernel)); intro _)
          | (apply step_load_kept X K c; (iterate 3 (on_goal 1 => decide +kernel)); intro _))
        | (with_reducible apply is_load rM
           apply step_load_recv X K c; (iterate 3 (on_goal 1 => decide +kernel)))
        | (with_reducible apply is_store
           first
           | (apply step_sum X K c; (iterate 3 (on_goal 1 => decide +kernel)); on_goal 1 => rfl)
           | (apply step_storeSend X K c; (iterate 3 (on_goal 1 => decide +kernel)); on_goal 1 => rfl)
           | (apply step_storeKept X K c; (iterate 3 (on_goal 1 => decide +kernel)); on_goal 1 => rfl)
           refine renum X K (by simp only [Nat.reduceAdd]; rfl) ?_)
        | (with_reducible apply is_wait
           apply step_wait X K c; (iterate 2 (on_goal 1 => decide +kernel)); on_goal 1 => rfl
           on_goal 1 => decide +kernel
           refine renum X K (by simp only [Nat.reduceAdd]; rfl) ?_)
        | (with_reducible apply last_load c)
        | (with_reducible apply is_pure
           apply step_done X K c)
        | (with_reducible apply is_barrier
           apply step_bar X K c; on_goal 1 => rfl)
        | (first
           | (refine at_agSend X K (by decide +kernel) ?_; apply step_agSend X K c; (iterate 7 (on_goal 1 => decide +kernel)); on_goal 1 => rfl)
           | (refine at_rsSend X K (by decide +kernel) ?_; apply step_rsSend X K c; (iterate 8 (on_goal 1 => decide +kernel)); on_goal 1 => rfl)
           refine renum X K (by simp only [Nat.reduceAdd]; rfl) ?_)
      done)
    on_goal 1 => (try dsimp only))
  · refine step_pure c ?_
    iintro H
    isplitr
    · ipureintro; rfl
    · iexact H
  · exact step_pure c .rfl

/-- The run of the whole body. -/
theorem run_body (c : Dev nD) :
    Sg X K c 0 ⊢ WP c (cc0_body (F := F) xM (Memref.isWhole_whole _) oM (Memref.isWhole_whole _)
      rM (Memref.isWhole_whole _) cc0_scratch1 cc0_scratch2 cc0_scratch3 cc0_scratch4) (fun _ => St X K c 313) := by
  rw [cc0_body_eq_skeleton]
  delta cc0_body_skel
  refine step_bind c (run_halves X K c).1 fun x => ?_
  iintro ⟨%hx, H⟩
  obtain ⟨d0, v2, v5, v7, v9, v11, w⟩ := x
  obtain rfl : d0 = c := hx
  refine step_bind d0 ((run_halves X K d0).2 v2 v5 v7 v9 v11 w) fun _ => ?_
  dsimp only
  apply step_wait X K d0; (iterate 2 (on_goal 1 => decide +kernel)); on_goal 1 => rfl
  on_goal 1 => decide +kernel
  exact step_pure d0 .rfl

end Cert.Exchange

end
-- ==== Proof.Ends.lean ====
/-
  The two ends of a device's run: what the buffers and the semaphores are divided into before the first step, and how
  the pieces make whole buffers again after the last.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The strips' things by kind -/

def idleKeys : Finset CK := Finset.univ.filter fun k => ¬live k = true

theorem keys_split (Φ : CK → sProp 𝕄) : bigSep Finset.univ Φ = iprop(bigSep liveKeys Φ ∗ bigSep idleKeys Φ) :=
  bigSep_filter_split Finset.univ fun k => live k = true

theorem all_keys (Φ : Key → sProp 𝕄) :
    bigSep Finset.univ Φ = iprop(Φ none ∗ bigSep Finset.univ fun q : Fin 8 => bigSep Finset.univ fun k : CK => Φ (some (q, k))) := by
  rw [bigSep_univ_equiv (Equiv.optionEquivSumPUnit (Fin 8 × CK)).symm, bigSep_univ_sum, bigSep_univ_prod]
  rw [show (Finset.univ : Finset PUnit.{1}) = {⟨⟩} from rfl, bigSep_singleton]
  exact BI.equiv_iff.mp ⟨BI.sep_comm, BI.sep_comm⟩

variable (X : Blocks F)

theorem S0_eq (c : Dev nD) (q : Fin 8) : bigSep S0 (den X c q) =
    iprop(((∃ f, oPts c (R c q 0 0) fullShare f) ∗ bigSep liveKeys fun k => dutyTok ER (dcell (tokDev c q k) q k) 0 (0 : Fin 4))
      ∗ ((bigSep recvKeys fun k => cred (tallyAt (dcell c q k) () (amt k))) ∗ bigSep liveKeys fun k => atPos ER (dcell c q k) 0 ∅ 0)) := by
  unfold S0
  rw [bigSep_union (by decide +kernel), bigSep_union (by decide +kernel), bigSep_union (by decide +kernel), bigSep_singleton,
    bigSep_image_of_injOn (fun a _ b _ h => by cases h; rfl), bigSep_image_of_injOn (fun a _ b _ h => by cases h; rfl),
    bigSep_image_of_injOn (fun a _ b _ h => by cases h; rfl)]
  rfl

theorem S40_eq (c : Dev nD) (q : Fin 8) : bigSep S40 (den X c q) =
    iprop((bigSep ({.fin 1, .fin 2, .fin 3, .fin 4, .fin 5, .fin 6, .fin 7} : Finset Atom) (den X c q) ∗ bigSep ({.leaf 1, .leaf 3, .leaf 5, .leaf 7} : Finset Atom) (den X c q))
      ∗ ((bigSep Finset.univ fun t : Fin 4 => rPts c (RV q t) (RC X c q t)) ∗ bigSep liveKeys fun k => semVal (dcell c q k) 0)) := by
  unfold S40
  rw [bigSep_union (by decide +kernel), bigSep_union (by decide +kernel), bigSep_union (by decide +kernel),
    show ({.rb 0 true, .rb 1 true, .rb 2 true, .rb 3 true} : Finset Atom) = Finset.univ.image fun t : Fin 4 => Atom.rb t true by decide,
    bigSep_image_of_injOn (f := fun t : Fin 4 => Atom.rb t true) (fun a _ b _ h => by cases h; rfl),
    bigSep_image_of_injOn (f := Atom.z) (fun a _ b _ h => by cases h; rfl)]
  rfl

/-! ## The output -/

theorem chunk_out (c : Dev nD) (q v : Fin 8) (s : PosShare TreeShare) : oPts c (R c q v 3) s (V X 4 (src c q v)) = oPts c (R c q v 3) s (OUT X c) := by
  unfold oPts
  refine pointsTo_congr fun i hi => ?_
  obtain ⟨rfl, rfl⟩ := (mem_chunk c q v i).mp hi
  rfl

/-- The chunks of a strip, the divided ones made whole. -/
theorem chunks (c : Dev nD) (q : Fin 8) :
    iprop(bigSep ({.fin 1, .fin 2, .fin 3, .fin 4, .fin 5, .fin 6, .fin 7} : Finset Atom) (den X c q) ∗ bigSep ({.leaf 1, .leaf 3, .leaf 5, .leaf 7} : Finset Atom) (den X c q))
      ⊢ bigSep Finset.univ fun v : Fin 8 => oPts c (R c q v 3) fullShare (OUT X c) := by
  rw [bigSep_eq_bigSepL_of_eq [.fin 1, .fin 2, .fin 3, .fin 4, .fin 5, .fin 6, .fin 7] (by decide) (by decide),
    bigSep_eq_bigSepL_of_eq [.leaf 1, .leaf 3, .leaf 5, .leaf 7] (by decide) (by decide),
    bigSep_univ_eq_bigSepL [0, 1, 2, 3, 4, 5, 6, 7] (by decide) (by decide)]
  show iprop((oPts c (R c q 0 3) fullShare.right.right (V X 4 (src c q 0)) ∗ oPts c (R c q 0 3) fullShare.right.left (V X 4 (src c q 0)) ∗ oPts c (R c q 2 3) fullShare (V X 4 (src c q 2))
      ∗ oPts c (R c q 0 3) fullShare.left (V X 4 (src c q 0)) ∗ oPts c (R c q 4 3) fullShare.right (V X 4 (src c q 4)) ∗ oPts c (R c q 4 3) fullShare.left (V X 4 (src c q 4))
      ∗ oPts c (R c q 6 3) fullShare (V X 4 (src c q 6)))
      ∗ (oPts c (R c q 1 3) fullShare (V X 4 (src c q 1)) ∗ oPts c (R c q 3 3) fullShare (V X 4 (src c q 3)) ∗ oPts c (R c q 5 3) fullShare (V X 4 (src c q 5))
      ∗ oPts c (R c q 7 3) fullShare (V X 4 (src c q 7)))) ⊢
    iprop(oPts c (R c q 0 3) fullShare (OUT X c) ∗ oPts c (R c q 1 3) fullShare (OUT X c) ∗ oPts c (R c q 2 3) fullShare (OUT X c) ∗ oPts c (R c q 3 3) fullShare (OUT X c)
      ∗ oPts c (R c q 4 3) fullShare (OUT X c) ∗ oPts c (R c q 5 3) fullShare (OUT X c) ∗ oPts c (R c q 6 3) fullShare (OUT X c) ∗ oPts c (R c q 7 3) fullShare (OUT X c))
  simp only [chunk_out]
  have j0 : iprop(oPts c (R c q 0 3) fullShare.right.left (OUT X c) ∗ oPts c (R c q 0 3) fullShare.right.right (OUT X c)) ⊢ oPts c (R c q 0 3) fullShare.right (OUT X c) :=
    (pointsTo_share (PosShare.mem_left_op_right fullShare.right)).2
  have j1 : ∀ v, iprop(oPts c (R c q v 3) fullShare.left (OUT X c) ∗ oPts c (R c q v 3) fullShare.right (OUT X c)) ⊢ oPts c (R c q v 3) fullShare (OUT X c) :=
    fun v => (pointsTo_share (PosShare.mem_left_op_right fullShare)).2
  iintro ⟨⟨H1, H2, H3, H4, H5, H6, H7⟩, L1, L3, L5, L7⟩
  ihave H0 := j0 $$ [H1 H2]
  · isplitl [H2] <;> iassumption
  ihave H0 := (j1 0) $$ [H4 H0]
  · isplitl [H4] <;> iassumption
  ihave H4 := (j1 4) $$ [H5 H6]
  · isplitl [H6] <;> iassumption
  isplitl [H0]; · iexact H0
  isplitl [L1]; · iexact L1
  isplitl [H3]; · iexact H3
  isplitl [L3]; · iexact L3
  isplitl [H4]; · iexact H4
  isplitl [L5]; · iexact L5
  isplitl [H7]; · iexact H7
  iexact L7

theorem chunks_univ (c : Dev nD) : (Finset.univ : Finset OIdx) = Finset.univ.biUnion fun x : Fin 8 × Fin 8 => R c x.1 x.2 3 := by
  ext i; rw [Finset.mem_biUnion]
  exact ⟨fun _ => ⟨(qOf i, vOf c i), Finset.mem_univ _, (mem_chunk c _ _ i).mpr ⟨rfl, rfl⟩⟩, fun _ => Finset.mem_univ _⟩

theorem chunks_disj (c : Dev nD) (x : Fin 8 × Fin 8) (_ : x ∈ Finset.univ) (y : Fin 8 × Fin 8) (_ : y ∈ Finset.univ) (h : x ≠ y) :
    Disjoint (R c x.1 x.2 3) (R c y.1 y.2 3) := by
  rw [Finset.disjoint_left]; intro i hx hy
  rw [mem_chunk] at hx hy
  exact h (Prod.ext (hx.1.symm.trans hy.1) (hx.2.symm.trans hy.2))

/-- A set divided into parts, held part by part. -/
theorem oPts_parts {T : Type} [Fintype T] [DecidableEq T] (c : Dev nD) (S : Finset OIdx) (K : T → Finset OIdx) (f : OIdx → Elt F .bf16) (hS : S = Finset.univ.biUnion K)
    (h : ∀ x ∈ Finset.univ, ∀ y ∈ Finset.univ, x ≠ y → Disjoint (K x) (K y)) :
    oPts c S fullShare f = bigSep Finset.univ fun x => oPts c (K x) fullShare f := by
  subst hS
  unfold oPts
  exact pointsTo_biUnion _ _ h

/-- All chunks of all strips are the whole output. -/
theorem out_whole (c : Dev nD) (f : OIdx → Elt F .bf16) :
    oPts c Finset.univ fullShare f = bigSep Finset.univ fun q : Fin 8 => bigSep Finset.univ fun v : Fin 8 => oPts c (R c q v 3) fullShare f :=
  (oPts_parts c _ (fun x : Fin 8 × Fin 8 => R c x.1 x.2 3) f (chunks_univ c) (chunks_disj c)).trans (bigSep_univ_prod _)

theorem strips_univ (c : Dev nD) : (Finset.univ : Finset OIdx) = Finset.univ.biUnion fun q : Fin 8 => R c q 0 0 := by
  ext i; rw [Finset.mem_biUnion]
  refine ⟨fun _ => ⟨qOf i, Finset.mem_univ _, ?_⟩, fun _ => Finset.mem_univ _⟩
  rw [mem_R, rowOff_zero]
  have h0 : (i 0).val < 2048 := (i 0).isLt
  have h1 : (i 1).val < 1024 := (i 1).isLt
  have hr : rows 0 = 2048 := rfl
  have hq : (qOf i).val = (i 1).val / 128 := by
    show (i 1).val / 128 % 8 = _
    omega
  omega

/-- The output is divided into its strips. -/
theorem out_open (c : Dev nD) (f : OIdx → Elt F .bf16) :
    oPts c Finset.univ fullShare f ⊢ bigSep Finset.univ fun q : Fin 8 => iprop(∃ f, oPts c (R c q 0 0) fullShare f) := by
  rw [oPts_parts c _ (fun q : Fin 8 => R c q 0 0) f (strips_univ c) fun q _ q' _ hne => ?_]
  · refine bigSep_mono fun q _ => ?_
    show (_ : sProp 𝕄) ⊢ _
    iintro H; iexists f; iexact H
  · rw [Finset.disjoint_left]; intro i hx hy
    exact hne ((qOf_of_mem hx).symm.trans (qOf_of_mem hy))

/-! ## The landing areas -/

/-- The rows of the landing buffer transfers land in. -/
def landing : Finset RIdx := Finset.univ.biUnion fun x : Fin 8 × Fin 4 => RV x.1 x.2
/-- The other rows. -/
def spare : Finset RIdx := Finset.univ \ landing

theorem landing_spare : landing ∪ spare = Finset.univ := Finset.union_sdiff_of_subset (Finset.subset_univ _)

theorem areas_disj (x : Fin 8 × Fin 4) (_ : x ∈ Finset.univ) (y : Fin 8 × Fin 4) (_ : y ∈ Finset.univ) (h : x ≠ y) : Disjoint (RV x.1 x.2) (RV y.1 y.2) := RV_disj h

theorem areas_pay (c : Dev nD) (f : RIdx → Elt F .bf16) :
    rPts c landing f ⊢ bigSep Finset.univ fun d : Fin 4 => barPay (F := F) (flip d c) d := by
  have h : rPts c landing f = bigSep Finset.univ fun q : Fin 8 => bigSep Finset.univ fun t : Fin 4 => rPts c (RV q t) f := by
    unfold rPts landing
    rw [pointsTo_biUnion _ _ areas_disj]
    exact bigSep_univ_prod _
  rw [h, bigSep_congr (s := Finset.univ) (fun (q : Fin 8) _ => bigSep_univ_equiv (invEquiv q) (fun t : Fin 4 => rPts c (RV q t) f)), bigSep_swap]
  refine bigSep_mono fun d _ => ?_
  unfold barPay
  rw [flip_flip]
  refine bigSep_mono fun q _ => ?_
  show (_ : sProp 𝕄) ⊢ _
  iintro H; iexists f; iexact H

theorem areas_open (c : Dev nD) (f : RIdx → Elt F .bf16) :
    rPts c Finset.univ f ⊢ iprop((bigSep Finset.univ fun d : Fin 4 => barPay (F := F) (flip d c) d) ∗ rPts c spare f) := by
  refine BIBase.Entails.trans ?_ (sep_mono_left (areas_pay c f))
  unfold rPts spare
  exact (pointsTo_split_subset (Finset.subset_univ _)).1

theorem areas_join (c : Dev nD) (g f : RIdx → Elt F .bf16) : iprop(rPts c landing g ∗ rPts c spare f) ⊢ iprop(∃ g, rPts c Finset.univ g) := by
  rw [← landing_spare]
  iintro H
  iexists (spare.piecewise f g)
  unfold rPts
  iapply (pointsTo_join (by unfold spare; exact Finset.disjoint_sdiff))
  iexact H

/-- Parts of the landing buffer, each held at its own contents, are held together at some. -/
theorem rPts_parts {T : Type} [Fintype T] [DecidableEq T] (c : Dev nD) (K : T → Finset RIdx) (fs : T → RIdx → Elt F .bf16) (f : RIdx → Elt F .bf16)
    (h : ∀ x ∈ Finset.univ, ∀ y ∈ Finset.univ, x ≠ y → Disjoint (K x) (K y)) :
    (bigSep Finset.univ fun x => rPts c (K x) (fs x)) ⊢ iprop(∃ g, rPts c (Finset.univ.biUnion K) g) := by
  unfold rPts
  refine BIBase.Entails.trans (pointsTo_biUnion_join (ℓ := (rM : Memref sig .tc .vmem S8x4x1024x128 .bf16).view.loc (c : Thread nD τ)) Finset.univ K fs f h) ?_
  iintro ⟨%g, -, H⟩
  iexists g; iexact H

theorem areas_close (c : Dev nD) (f : RIdx → Elt F .bf16) :
    iprop((bigSep Finset.univ fun q : Fin 8 => bigSep Finset.univ fun t : Fin 4 => rPts c (RV q t) (RC X c q t)) ∗ rPts c spare f)
      ⊢ iprop(∃ g, rPts c Finset.univ g) := by
  iintro ⟨H, Hs⟩
  ihave H := ((Entails.of_eq (bigSep_univ_prod (fun x : Fin 8 × Fin 4 => rPts c (RV x.1 x.2) (RC X c x.1 x.2))).symm).trans
    (rPts_parts c (fun x : Fin 8 × Fin 4 => RV x.1 x.2) (fun x => RC X c x.1 x.2) f areas_disj)) $$ H
  icases H with ⟨%g, H⟩
  iapply (areas_join c g f)
  isplitl [H]
  · unfold landing; iexact H
  · iexact Hs

end Cert.Exchange

end
-- ==== Proof.Run.lean ====
/-
  The kernel on one device from its launch to its end.
-/
module

public import proofs.«01_k».proof.Proof.Ends

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Blocks F) (K : Dev nD × Key → ℕ)

/-- The right to signal the barrier of the device across each direction, and the rights a strip's transfers use. -/
def payToks (c : Dev nD) : sProp 𝕄 :=
  iprop((bigSep Finset.univ fun d : Fin 4 => dutyTok ER (barCell (flip d c)) 0 d)
    ∗ bigSep Finset.univ fun q : Fin 8 => bigSep liveKeys fun k => dutyTok ER (dcell (tokDev c q k) q k) 0 (0 : Fin 4))
/-- The positions of the device's cells. -/
def posns (c : Dev nD) : sProp 𝕄 :=
  iprop(atPos ER (barCell c) 0 ∅ 0 ∗ bigSep Finset.univ fun q : Fin 8 => bigSep Finset.univ fun k : CK => atPos ER (dcell c q k) 0 ∅ 0)
/-- The credit the device waits for and others owe. -/
def creds (c : Dev nD) : sProp 𝕄 :=
  iprop(cred (tallyAt (barCell c) () 4) ∗ bigSep Finset.univ fun q : Fin 8 => bigSep recvKeys fun k => cred (tallyAt (dcell c q k) () (amt k)))

/-- The device's counters, all at zero. -/
def zeros (c : Dev nD) : sProp 𝕄 := bigSep Finset.univ fun q : Fin 8 => bigSep Finset.univ fun k : CK => semVal (dcell c q k) 0

theorem close_one (c : Dev nD) (q : Fin 8) (k : CK) (h : live k = false) :
    iprop(records X K ∗ atPos ER (dcell c q k) 0 ∅ 0) ⊢ iprop(|={Set.univ}=> semVal (dcell c q k) 0 : sProp 𝕄) := by
  iintro ⟨#HR, H⟩
  ihave HI := (rec_inv X K c (some (q, k))) $$ HR
  imod (Rounds.cell_close ER (Rd X) (Set.mem_univ (K (c, some (q, k)))) (fun h => h) (R := 0) (g := dcell c q k) (fun r _ => duties_idle X c q k h r)) $$ [H HI] with Hz
  · isplitl [HI]; · iexact HI
    iexact H
  imodintro; iexact Hz

/-- The cells the exchange does not use are closed at once. -/
theorem close_idle (c : Dev nD) :
    iprop(records X K ∗ bigSep Finset.univ fun q : Fin 8 => bigSep idleKeys fun k : CK => atPos ER (dcell c q k) 0 ∅ 0)
      ⊢ iprop(|={Set.univ}=> bigSep Finset.univ fun q : Fin 8 => bigSep idleKeys fun k : CK => semVal (dcell c q k) 0 : sProp 𝕄) := by
  have h1 : ∀ q : Fin 8, iprop(records X K ∗ bigSep idleKeys fun k : CK => atPos ER (dcell c q k) 0 ∅ 0)
      ⊢ iprop(|={Set.univ}=> bigSep idleKeys fun k : CK => semVal (dcell c q k) 0 : sProp 𝕄) := fun q =>
    (bigSep_with_persistent fun k hk => close_one X K c q k (by unfold idleKeys at hk; rw [Finset.mem_filter] at hk; simpa using hk.2)).trans (bigSep_fupd _ _)
  exact (bigSep_with_persistent fun q _ => h1 q).trans (bigSep_fupd _ _)

theorem enter (c : Dev nD) (W : Waits sig Unit) (g : OIdx → Elt F .bf16) :
    iprop(records X K ∗ levAts L lv ∗ owes (c : Thread nD τ) (owedS c 0) W ∗ payToks c ∗ atPos ER (barCell c) 0 ∅ 0
        ∗ (bigSep Finset.univ fun q : Fin 8 => bigSep liveKeys fun k : CK => atPos ER (dcell c q k) 0 ∅ 0) ∗ creds c
        ∗ xPts c (X c) ∗ oPts c Finset.univ fullShare g ∗ bigSep Finset.univ fun d : Fin 4 => barPay (F := F) (flip d c) d)
      ⊢ Sg X K c 0 := by
  unfold Sg payToks creds barPart strips
  rw [if_pos (by decide : 0 ≤ 8), show (Finset.univ.filter fun d : Fin 4 => 0 ≤ d.val) = Finset.univ by decide]
  simp only [pc_zero, held_zero, S0_eq, bigSep_sep']
  iintro ⟨HR, HL, HO, ⟨Ht, Htk⟩, Hp, Hpos, ⟨Hc, Hcr⟩, Hx, Ho, Hb⟩
  ihave Hs := (out_open c g) $$ Ho
  isplitl [HR]; · iexact HR
  isplitl [HL]; · iexact HL
  isplitl [HO]; · iexists W; iexact HO
  isplitl [Ht Hb]
  · isplitl [Ht] <;> iassumption
  isplitl [Hp Hc]
  · isplitl [Hc] <;> iassumption
  isplitl [Hx]; · iexact Hx
  isplitl [Hs Htk]
  · isplitl [Hs] <;> iassumption
  isplitl [Hcr] <;> iassumption

/-- What a device ends with. -/
def ends (c : Dev nD) : sProp 𝕄 :=
  iprop((∃ W, owes (c : Thread nD τ) 0 W) ∗ xPts c (X c) ∗ oPts c Finset.univ fullShare (OUT X c) ∗ (∃ g, rPts c Finset.univ g) ∗ zeros c ∗ semVal (barCell c) 0)

theorem leave (c : Dev nD) (f : RIdx → Elt F .bf16) :
    iprop(St X K c 313 ∗ ((bigSep Finset.univ fun q : Fin 8 => bigSep idleKeys fun k : CK => semVal (dcell c q k) 0) ∗ rPts c spare f)) ⊢ ends X c := by
  unfold St ends zeros barPart strips
  rw [if_neg (by decide : ¬313 ≤ 8), owed_end]
  simp only [pc_end, held_end, S40_eq, bigSep_sep', keys_split]
  iintro ⟨⟨-, -, HO, Hb, Hx, ⟨Hf, Hl⟩, Hr, Hz⟩, Hi, Hs⟩
  ihave Hc := ((Entails.of_eq (bigSep_sep' Finset.univ _ _).symm).trans (bigSep_mono fun q _ => chunks X c q)) $$ [Hf Hl]
  · isplitl [Hf] <;> iassumption
  ihave Ho := (Entails.of_eq (out_whole c (OUT X c)).symm) $$ Hc
  ihave Hg := (areas_close X c f) $$ [Hr Hs]
  · isplitl [Hr] <;> iassumption
  isplitl [HO]; · iexact HO
  isplitl [Hx]; · iexact Hx
  isplitl [Ho]; · iexact Ho
  isplitl [Hg]; · iexact Hg
  isplitl [Hz Hi]
  · isplitl [Hz] <;> iassumption
  iexact Hb

/-- The kernel's run on a device. -/
theorem run_device (c : Dev nD) (W : Waits sig Unit) (g : OIdx → Elt F .bf16) (f : RIdx → Elt F .bf16) :
    iprop(records X K ∗ levAts L lv ∗ owes (c : Thread nD τ) (owedS c 0) W ∗ payToks c ∗ posns c ∗ creds c
        ∗ xPts c (X c) ∗ oPts c Finset.univ fullShare g ∗ rPts c Finset.univ f)
      ⊢ WP c (cc0_body (F := F) xM (Memref.isWhole_whole _) oM (Memref.isWhole_whole _)
          rM (Memref.isWhole_whole _) cc0_scratch1 cc0_scratch2 cc0_scratch3 cc0_scratch4) (fun _ => ends X c) := by
  unfold posns
  simp only [keys_split, bigSep_sep']
  iintro ⟨#HR, HL, HO, Ht, ⟨Hp, Hpl, Hpi⟩, Hc, Hx, Ho, Hr⟩
  unfold WP
  imod (close_idle X K c) $$ [Hpi] with Hi
  · isplitr; · iexact HR
    iexact Hpi
  ihave Hr := (areas_open c f) $$ Hr
  icases Hr with ⟨Hb, Hs⟩
  iapply (wp_mono _ _ _ fun _ => leave X K c f)
  iapply (wp_frame_r _ _ _)
  isplitr [Hi Hs]
  · iapply (run_body X K c)
    iapply (enter X K c W g)
    isplitr; · iexact HR
    isplitl [HL]; · iexact HL
    isplitl [HO]; · iexact HO
    isplitl [Ht]; · iexact Ht
    isplitl [Hp]; · iexact Hp
    isplitl [Hpl]; · iexact Hpl
    isplitl [Hc]; · iexact Hc
    isplitl [Hx]; · iexact Hx
    isplitl [Ho] <;> iassumption
  · isplitl [Hi] <;> iassumption

end Cert.Exchange

end
-- ==== Proof.Deal.lean ====
module

public import proofs.«01_k».proof.Proof.Run

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (X : Blocks F)

/-! ## The cells and the rights to signal them -/

abbrev kcell (ck : Dev nD × Key) : GSem nD τ sig := cell ck.1 ck.2

theorem kcell_injective : Function.Injective (kcell : Dev nD × Key → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The rights to signal a device's own cells: the barrier's one for each direction, the other cells' one each. -/
def tokOf (x : Dev nD × (Fin 4 ⊕ (Fin 8 × CK))) : GSem nD τ sig × ℕ × Fin 4 :=
  match x.2 with
  | .inl d => (barCell x.1, 0, d)
  | .inr y => (dcell x.1 y.1 y.2, 0, 0)

theorem tokOf_injective : Function.Injective tokOf := by
  rintro ⟨c, y⟩ ⟨c', y'⟩ h
  have h1 : c = c' := by
    have := congrArg (fun x : GSem nD τ sig × ℕ × Fin 4 => x.1.1.1) h
    rcases y with _ | _ <;> rcases y' with _ | _ <;> exact this
  have hk := congrArg (fun x : GSem nD τ sig × ℕ × Fin 4 => key x.1.2) h
  have hd := congrArg (fun x : GSem nD τ sig × ℕ × Fin 4 => x.2.2) h
  subst h1
  rcases y with d | ⟨q, k⟩ <;> rcases y' with d' | ⟨q', k'⟩
  · have : d = d' := hd
    rw [this]
  · have h2 : key (.reg barS) = key (.dma (dsem q' k')) := hk
    rw [key_b, key_d] at h2; exact absurd h2 (by simp)
  · have h2 : key (.dma (dsem q k)) = key (.reg barS) := hk
    rw [key_b, key_d] at h2; exact absurd h2 (by simp)
  · have h2 : key (.dma (dsem q k)) = key (.dma (dsem q' k')) := hk
    rw [key_d, key_d] at h2
    rw [Option.some.inj (Option.some.inj h2)]

def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The rights to signal device `c`'s own cells. -/
def toks (c : Dev nD) : sProp 𝕄 :=
  iprop((bigSep Finset.univ fun d : Fin 4 => dutyTok ER (barCell c) 0 d)
    ∗ bigSep Finset.univ fun q : Fin 8 => bigSep Finset.univ fun k : CK => dutyTok ER (dcell c q k) 0 (0 : Fin 4))

/-- What a device is dealt at launch, -/
def G (c : Dev nD) : sProp 𝕄 :=
  iprop((bigSep Finset.univ fun k : Key => roundState ER (Rd X) (cell c k) 0)
    ∗ (bigSep Finset.univ fun k : Key => atPos ER (cell c k) 0 ∅ 0) ∗ (bigSep Finset.univ fun k : Key => reached ER (cell c k) 0) ∗ toks c)

/-- and what is made of it once the rights have been handed to their users. -/
def G' (c : Dev nD) : sProp 𝕄 := iprop(∃ K, records X K ∗ payToks c ∗ posns c)

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : Key => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, ← bigSep_univ_prod (fun y : Fin 8 × CK => (dutyTok ER (dcell c y.1 y.2) 0 (0 : Fin 4) : sProp 𝕄))]
    rfl
  iintro HX
  imod (Rounds.fund ER (Rd X) allCells allToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The counters -/

/-- The kernel's own semaphores. -/
def osem (x : Fin 8 × CK) : SemLoc sig := .dma (dsem x.1 x.2)

theorem dnum_ge : ∀ q k, 2 ≤ dnum q k := by decide +kernel

theorem osem_injective : Function.Injective osem := fun a b h => by
  have : csem (some a) = csem (some b) := h
  exact Option.some.inj (csem_injective this)

theorem ownSems0_eq (c : Dev nD) :
    (Pipeline.ownSems0 (Ix := Unit) (Name := ℕ) (U := UU) (Lvl := ℕ) (Val := Elt F) (τ := τ) osem c : sProp 𝕄) = zeros c := by
  unfold Pipeline.ownSems0 zeros
  rw [bigSep_univ_prod]; rfl

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (cell c k) 0 : sProp 𝕄) := by
  rw [ownSems0_eq, unscopedSems0_eq, all_keys]
  unfold zeros
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Key => iprop(∃ κ : ℕ, cellInv ER (Rd X) κ (cell c k)))
          ∗ (bigSep Finset.univ fun k : Key => atPos ER (cell c k) 0 ∅ 0) ∗ (bigSep Finset.univ fun k : Key => reached ER (cell c k) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : Key => semVal (cell c k) 0) ∗ bigSep Finset.univ fun k : Key => roundState ER (Rd X) (cell c k) 0)
      ⊢ (|={Set.univ}=> bigSep Finset.univ fun k : Key => iprop(∃ κ : ℕ, cellInv ER (Rd X) κ (cell c k)) : sProp 𝕄) from by
        rw [← bigSep_sep']
        exact (bigSep_mono fun k _ => (Rounds.body_intro ER (Rd X) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## Each right to its user -/

theorem tokDev_tokDev (q : Fin 8) (k : CK) (c : Dev nD) : tokDev (tokDev c q k) q k = c := by
  cases k <;> first | exact nbr_nbr _ _ _ | rfl

def flipEquiv (d : Fin 4) : Dev nD ≃ Dev nD := ⟨flip d, flip d, flip_flip d, flip_flip d⟩
def tokEquiv (q : Fin 8) (k : CK) : Dev nD ≃ Dev nD :=
  ⟨fun c => tokDev c q k, fun c => tokDev c q k, tokDev_tokDev q k, tokDev_tokDev q k⟩

theorem bar_around : (bigSep Finset.univ fun c : Dev nD => bigSep Finset.univ fun d : Fin 4 => (dutyTok ER (barCell c) 0 d : sProp 𝕄))
    = bigSep Finset.univ fun c : Dev nD => bigSep Finset.univ fun d : Fin 4 => dutyTok ER (barCell (flip d c)) 0 d := by
  rw [bigSep_swap, bigSep_swap (fun (c : Dev nD) (d : Fin 4) => (dutyTok ER (barCell (flip d c)) 0 d : sProp 𝕄))]
  exact bigSep_congr fun d _ => bigSep_univ_equiv (flipEquiv d) (fun c : Dev nD => (dutyTok ER (barCell c) 0 d : sProp 𝕄))

theorem dma_around :
    (bigSep Finset.univ fun c : Dev nD => bigSep Finset.univ fun x : Fin 8 × CK => (dutyTok ER (dcell c x.1 x.2) 0 (0 : Fin 4) : sProp 𝕄))
    = bigSep Finset.univ fun c : Dev nD => bigSep Finset.univ fun x : Fin 8 × CK => dutyTok ER (dcell (tokDev c x.1 x.2) x.1 x.2) 0 (0 : Fin 4) := by
  rw [bigSep_swap, bigSep_swap (fun (c : Dev nD) (x : Fin 8 × CK) => (dutyTok ER (dcell (tokDev c x.1 x.2) x.1 x.2) 0 (0 : Fin 4) : sProp 𝕄))]
  exact bigSep_congr fun x _ => bigSep_univ_equiv (tokEquiv x.1 x.2) (fun c : Dev nD => (dutyTok ER (dcell c x.1 x.2) 0 (0 : Fin 4) : sProp 𝕄))

theorem toks_around : (bigSep Finset.univ fun c : Dev nD => (toks c : sProp 𝕄)) ⊢ bigSep Finset.univ fun c : Dev nD => payToks c := by
  unfold toks payToks
  rw [bigSep_sep', bigSep_sep', bar_around]
  refine sep_mono_right ?_
  rw [bigSep_congr (s := Finset.univ) fun (c : Dev nD) _ => (bigSep_univ_prod (fun x : Fin 8 × CK => (dutyTok ER (dcell c x.1 x.2) 0 (0 : Fin 4) : sProp 𝕄))).symm,
    dma_around]
  refine bigSep_mono fun c _ => ?_
  rw [bigSep_univ_prod]
  exact bigSep_mono fun q _ => bigSep_subset (Finset.subset_univ _)

theorem regroup :
    (bigSep Finset.univ fun c : Dev nD => iprop((bigSep Finset.univ fun k : Key => iprop(∃ κ : ℕ, cellInv ER (Rd X) κ (cell c k)))
          ∗ (bigSep Finset.univ fun k : Key => atPos ER (cell c k) 0 ∅ 0) ∗ (bigSep Finset.univ fun k : Key => reached ER (cell c k) 0) ∗ toks c) : sProp 𝕄)
      ⊢ bigSep Finset.univ (G' X) := by
  rw [bigSep_sep', bigSep_sep', bigSep_sep', ← bigSep_univ_prod (fun ck : Dev nD × Key => iprop(∃ κ : ℕ, cellInv ER (Rd X) κ (cell ck.1 ck.2))),
    ← bigSep_univ_prod (fun ck : Dev nD × Key => (reached ER (cell ck.1 ck.2) 0 : sProp 𝕄))]
  iintro ⟨HI, Hat, #HR, Htok⟩
  ihave HK := (BI.bigSep_exists_pi Finset.univ (fun (ck : Dev nD × Key) (κ : ℕ) => (cellInv ER (Rd X) κ (cell ck.1 ck.2) : sProp 𝕄))) $$ HI
  icases HK with ⟨%K, #HI⟩
  ihave Htk := (toks_around (F := F)) $$ Htok
  have hG : ∀ c : Dev nD, iprop(records X K ∗ (payToks c ∗ posns c)) ⊢ G' X c := fun c => by
    unfold G'; iintro H; iexists K; iexact H
  iapply (bigSep_with_persistent (R := records X K) fun c _ => hG c)
  isplitr
  · unfold records; isplitl; · iexact HI
    iexact HR
  · iapply ((Entails.of_eq (bigSep_sep' Finset.univ (fun c : Dev nD => (payToks c : sProp 𝕄)) posns).symm))
    isplitl [Htk]; · iexact Htk
    iapply (Entails.of_eq (bigSep_congr (s := Finset.univ) (Ψ := fun c => (posns c : sProp 𝕄)) fun (c : Dev nD) _ =>
      all_keys fun k : Key => atPos ER (cell c k) 0 ∅ 0))
    iexact Hat

/-- The step all devices take together before they start. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit -/

abbrev O₀ (c : Dev nD) : CellTallies nD τ sig Unit := owedS c 0

theorem todo_zero : todo 0 = Finset.univ ×ˢ recvKeys := by decide +kernel

theorem cell_eq_iff {c d : Dev nD} {k l : Key} : cell c k = cell d l ↔ (c, k) = (d, l) :=
  ⟨fun h => kcell_injective (a₁ := (c, k)) (a₂ := (d, l)) h, fun h => by obtain ⟨rfl, rfl⟩ := Prod.ext_iff.mp h; rfl⟩

theorem tally_cell (c d : Dev nD) (k l : Key) (n : ℕ) :
    (tallyAt (cell d l) () n : CellTallies nD τ sig Unit) (cell c k) () = if d = c ∧ l = k then n else 0 := by
  rw [tallyAt_apply]
  by_cases h : d = c ∧ l = k
  · obtain ⟨rfl, rfl⟩ := h; rw [if_pos ⟨rfl, rfl⟩, if_pos ⟨rfl, rfl⟩]
  · rw [if_neg h, if_neg]
    rintro ⟨h1, -⟩
    obtain ⟨h2, h3⟩ := Prod.ext_iff.mp (cell_eq_iff.mp h1)
    exact h ⟨h2.symm, h3.symm⟩

theorem owes_cell (d c : Dev nD) (k : Key) :
    O₀ d (cell c k) () = (∑ x ∈ Finset.univ ×ˢ recvKeys, if tokDev d x.1 x.2 = c ∧ some x = k then amt x.2 else 0)
      + ∑ e : Fin 4, if flip e d = c ∧ none = k then 1 else 0 := by
  unfold O₀ owedS owed
  rw [todo_zero, show (Finset.univ.filter fun d : Fin 4 => 0 ≤ d.val) = Finset.univ by decide, Pi.add_apply, Finsupp.add_apply,
    Finset.sum_apply, Finset.sum_apply, Finsupp.finset_sum_apply, Finsupp.finset_sum_apply]
  refine congrArg₂ (· + ·) ?_ ?_
  · exact Finset.sum_congr rfl fun x _ => (tally_cell c (tokDev d x.1 x.2) k (some x) (amt x.2)).trans (if_congr Iff.rfl rfl rfl)
  · exact Finset.sum_congr rfl fun e _ => (tally_cell c (flip e d) k none 1).trans (if_congr Iff.rfl rfl rfl)

theorem credit_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  refine (Finset.sum_congr rfl fun d _ => owes_cell d c none).trans ?_
  simp only [reduceCtorEq, and_false, if_false, Finset.sum_const_zero, Nat.zero_add, and_true]
  rw [Finset.sum_comm]
  have h : ∀ e : Fin 4, (∑ d : Dev nD, if flip e d = c then 1 else 0) = 1 := fun e => by
    rw [Finset.sum_congr rfl fun d _ => (if_congr ⟨fun h => by rw [← h, flip_flip], fun h => by rw [h, flip_flip]⟩ rfl rfl :
      (if flip e d = c then 1 else 0) = if d = flip e c then 1 else 0), Finset.sum_ite_eq' Finset.univ (flip e c) fun _ => 1, if_pos (Finset.mem_univ _)]
  rw [Finset.sum_congr rfl fun e _ => h e]; rfl

theorem credit_dma (c : Dev nD) (q : Fin 8) (k : CK) (hk : k ∈ recvKeys) :
    tallyOn (dcell c q k) (launchCredit (Pipeline.owing O₀) 0 (dcell c q k)) = (tallyAt (dcell c q k) () (amt k) : CellTallies nD τ sig Unit) := by
  unfold tallyAt; refine congrArg _ (Finsupp.ext fun u => ?_); cases u
  rw [Pipeline.launchCredit_owing, Finsupp.single_eq_same]
  refine (Finset.sum_congr rfl fun d _ => owes_cell d c (some (q, k))).trans ?_
  simp only [reduceCtorEq, and_false, if_false, Finset.sum_const_zero, Nat.add_zero, Option.some.injEq]
  have h : ∀ d : Dev nD, (∑ x ∈ Finset.univ ×ˢ recvKeys, if tokDev d x.1 x.2 = c ∧ x = (q, k) then amt x.2 else 0) = if d = tokDev c q k then amt k else 0 := fun d => by
    rw [Finset.sum_eq_single (q, k) (fun x _ hx => if_neg fun h => hx h.2) (fun h => absurd (Finset.mem_product.mpr ⟨Finset.mem_univ _, hk⟩) h)]
    exact if_congr ⟨fun h => by rw [← h.1, tokDev_tokDev], fun h => ⟨by rw [h, tokDev_tokDev], rfl⟩⟩ rfl rfl
  rw [Finset.sum_congr rfl fun d _ => h d, Finset.sum_ite_eq' Finset.univ (tokDev c q k) fun _ => amt k, if_pos (Finset.mem_univ _)]

theorem creds_intro (c : Dev nD) : (Pipeline.launchCred O₀ c : sProp 𝕄) ⊢ creds c := by
  unfold Pipeline.launchCred creds
  refine BIBase.Entails.trans (bigSep_subset (Finset.subset_univ ((Finset.univ : Finset Key).image csem))) ?_
  rw [bigSep_image_of_injOn (fun a _ b _ h => csem_injective h), all_keys]
  show (iprop(cred (tallyOn (barCell c) (launchCredit (Pipeline.owing O₀) 0 (barCell c)))
    ∗ bigSep Finset.univ fun q : Fin 8 => bigSep Finset.univ fun k : CK => cred (tallyOn (dcell c q k) (launchCredit (Pipeline.owing O₀) 0 (dcell c q k)))) : sProp 𝕄) ⊢ _
  rw [credit_bar]
  refine sep_mono_right (bigSep_mono fun q _ => ?_)
  refine (bigSep_subset (Finset.subset_univ recvKeys)).trans ?_
  refine bigSep_mono fun k hk => ?_
  rw [credit_dma c q k hk]
  exact BI.Entails.refl _

end Cert.Exchange

end
-- ==== Proof.Launch.lean ====
module

public import proofs.«01_k».proof.Proof.Deal
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The proof data -/

abbrev s₀ : MemSt nD τ sig (Elt F) := ⟨m, fun _ => 0, ρ⟩

/-- Device `c`'s block as it is fetched. -/
def xstg (c : Dev nD) : (cc0_stg0_0 : Ref sig .tc).ty.Contents (Elt F) :=
  (win0_0.blk (0 : Fin 1)).view.read (Elt F) ((s₀ m ρ).mem ((c : Thread nD τ).loc main_arg0))

def XX : Blocks F := fun c => xstg m ρ c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from, -/
def start (c : Dev nD) : sProp 𝕄 := iprop(G' (XX m ρ) c ∗ creds c ∗ levAts L lv)
/-- with the landing areas, -/
def Φ₀ (c : Dev nD) : sProp 𝕄 := iprop(start m ρ c ∗ ∃ f, rPts c Finset.univ f)
/-- and what it ends with: the landing areas and all counters at zero. -/
def Φ₁ (c : Dev nD) : sProp 𝕄 := iprop((∃ g, rPts (F := F) c Finset.univ g) ∗ zeros c ∗ semVal (barCell c) 0)

def outAt (c : Dev nD) : (cc0_stg1_0 : Ref sig .tc).ty.Contents (Elt F) := OUT (XX m ρ) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxRecDepth 4000 in
theorem body_enter (c : Dev nD) : bodyPre m ρ c ⊢ (iprop(∃ K W g f, records (XX m ρ) K ∗ levAts L lv ∗ owes (c : Thread nD τ) (owedS c 0) W ∗ payToks c ∗ posns c ∗ creds c
        ∗ xPts c (XX m ρ c) ∗ oPts c Finset.univ fullShare g ∗ rPts c Finset.univ f) : sProp 𝕄) := by
  unfold bodyPre Φ₀ start G'
  iintro ⟨⟨⟨⟨%K, HR, Ht, Hp⟩, Hc, HL⟩, %f, Hr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedS c 0 from rfl]
  iexists K; iexists W; iexists g1; iexists f
  isplitl [HR]; · iexact HR
  isplitl [HL]; · iexact HL
  isplitl [HO]; · iexact HO
  isplitl [Ht]; · iexact Ht
  isplitl [Hp]; · iexact Hp
  isplitl [Hc]; · iexact Hc
  isplitl [Hx]; · unfold xPts XX; iexact Hx
  isplitl [Hout]; · unfold oPts; iexact Hout
  iexact Hr

set_option maxRecDepth 4000 in
theorem body_leave (c : Dev nD) : ends (XX m ρ) c ⊢ bodyPost m ρ c := by
  unfold ends bodyPost Φ₁ Dat.owesAt Pipeline.owesWithin
  rw [show (dats m ρ 0 c).owed t₀.succ = 0 from rfl]
  iintro ⟨⟨%W, HO⟩, Hx, Ho, Hr, Hz, Hb⟩
  isplitl [Hr Hz Hb]
  · isplitl [Hr]; · iexact Hr
    isplitl [Hz] <;> iassumption
  isplitl [HO]
  · iexists W
    isplitr; · ipureintro; exact fun _ _ => Or.inl trivial
    iexact HO
  isplitl [Hx]
  · iexists _; isplitr; · (ipureintro; rfl)
    unfold xPts XX; iexact Hx
  iexists _; isplitr; · (ipureintro; rfl)
  unfold oPts outAt; iexact Ho

set_option maxRecDepth 4000 in
theorem sound_body (c : Dev nD) : bodyPre m ρ c ⊢ WP c (cc0_body (F := F) xM (Memref.isWhole_whole _) oM (Memref.isWhole_whole _)
          rM (Memref.isWhole_whole _) cc0_scratch1 cc0_scratch2 cc0_scratch3 cc0_scratch4) (fun _ => bodyPost m ρ c) := by
  iintro H
  ihave H := (body_enter m ρ c) $$ H
  icases H with ⟨%K, %W, %g, %f, H⟩
  unfold WP
  iapply (wp_mono _ _ _ fun _ => body_leave m ρ c)
  iapply (run_device (XX m ρ) K c W g f)
  iexact H

set_option maxRecDepth 100000 in
/-- The body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem scoped_dsem : ∀ q k, (SemLoc.dma (dsem q k) : SemLoc sig).isScoped .tc = true := by decide +kernel
theorem isScoped_osem (x : Fin 8 × CK) : (osem x).isScoped .tc = true := scoped_dsem x.1 x.2

theorem unsem_stage : ∀ (w : Fin 2) s, unsem ((cfg0.spec w).sem s) = none := by decide +kernel
theorem osem_disj (x : Fin 8 × CK) (w : Fin 2) (s) : osem x ≠ .dma ((cfg0.spec w).sem s) := fun h => by
  have h1 : dsem x.1 x.2 = (cfg0.spec w).sem s := SemLoc.dma.inj h
  have h2 := unsem_stage w s
  rw [← h1, unsem_dsem] at h2
  exact absurd h2 (by simp)

theorem ownSemFacts : Pipeline.OwnSemFacts cfg0.spec osem := ⟨isScoped_osem, osem_injective, osem_disj⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (XX m ρ) c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold rPts; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨⟨%g, Hr⟩, Hz, Hb⟩
  isplitl [Hb]; · iexact Hb
  isplitl [Hz]; · iexact Hz
  iexists g; unfold rPts; iexact Hr

theorem owedS_pos {c : Dev nD} {g : GSem nD τ sig} {u : Unit} (h : 0 < owedS c 0 g u) : L g = {()} ∧ 1 ≤ lv g u := by
  unfold owedS at h
  rw [Pi.add_apply, Finsupp.add_apply, Nat.add_pos_iff_pos_or_pos] at h
  rcases h with h | h
  · obtain ⟨q, k, hk, -, rfl⟩ := owed_pos h
    refine ⟨L_tc _ _, ?_⟩
    rw [lv_d]
    exact (show ∀ k ∈ recvKeys, 1 ≤ clv k by decide +kernel) k hk
  · rw [Finset.sum_apply, Finsupp.finset_sum_apply] at h
    obtain ⟨d, -, hne⟩ := Finset.exists_ne_zero_of_sum_ne_zero (Nat.pos_iff_ne_zero.mp h)
    by_cases hg : g = barCell (flip d c)
    · subst hg; exact ⟨L_tc _ _, (lv_bar _ _).ge⟩
    · rw [tallyAt_apply, if_neg fun h' => hg h'.1] at hne; exact absurd rfl hne

theorem mayWait_stage (c : Dev nD) (q : DmaSem sig) (hq : unsem q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rw [(owedS_pos hg).1]; exact Finset.mem_singleton_self _)
      (fun p hp => by
        rw [Finset.mem_singleton.mp hp]
        show lv ((c : Thread nD τ), .dma q) () ≤ 0
        unfold lv key; dsimp only; rw [hq]; exact Nat.le_refl 0)
      (fun g u hg => (owedS_pos hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every run ends with the arrays at `finalA` and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _) (harr := arr_whole0) (hstage := stage_whole0) (hshare := share_eq m ρ)
    (hdistinct := winFacts0.arr_inj) (O₀ := O₀) (howed₀ := fun _ => rfl) (howedN := fun _ => rfl)
    (L := L) (lv := lv) (hL := L_of_ne) (hwaits := waits m ρ) (G := G (XX m ρ)) (G' := G' (XX m ρ)) (u₀ := u₀)
    (hu₀ := by
      unfold u₀; iintro Hu
      ihave H := (ownU_pair _ _) $$ Hu
      icases H with ⟨HP, HX⟩
      imod (fund_all (XX m ρ)) $$ HX with HG
      imodintro
      isplitl [HP] <;> iassumption)
    (hglob := glob (XX m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds what the body left. -/
theorem finalA_o (c : Dev nD) : finalA m ρ c (1 : Fin 2) = outAt m ρ c := by
  have hz : (fun a => (win0_1.index (0 : Fin 1)) a * main_v1.ty.shape.size a) = fun _ => 0 :=
    funext fun a => by fin_cases a <;> decide
  have hr := Memref.read_access_unit_zero (Elt F) main_v1 hz (fun a => by fin_cases a <;> decide) (finalA m ρ c (1 : Fin 2))
  refine hr.symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- A device's block as fetched is its block. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) (m ((c : Thread nD τ).loc main_arg0))

end Cert.Exchange

end
-- ==== Proof.Value.lean ====
module

public import proofs.«01_k».proof.Proof.Launch
public import proofs.«01_k».proof.Proof.Gen.ReferenceIdeal.Run
public import Idealize.ShloMosaic.Lib.IdealHost
public import Idealize.ShloMosaic.Lib.Layout
public import Idealize.ShloMosaic.Lib.ValueLayout
public import Idealize.ShloMosaic.Lib.Pointwise.Reduce

@[expose] public section

noncomputable section

namespace Cert.Exchange

open Idealize.ShloMosaic
open Idealize.ShloMosaic.ValueIdx

/-! ## The partial sums of the last step are the sum over all devices -/

section Sum
open Cert.KernelIdeal Cert.KernelIdeal.Gen

/-- The devices whose blocks a device's last partial sum of strip `q` is made from, in the order of the additions. -/
def orbit (q : Fin 8) (c : Dev nD) (k : Fin 16) : Dev nD :=
  (fun d : Dev nD => if k.val.testBit 0 then nbr q 0 d else d)
    ((fun d : Dev nD => if k.val.testBit 1 then nbr q 1 d else d)
      ((fun d : Dev nD => if k.val.testBit 2 then nbr q 2 d else d) (if k.val.testBit 3 then nbr q 3 c else c)))

/-- They are all devices. -/
theorem orbit_surjective : ∀ (q : Fin 8) (c e : Dev nD), ∃ k, orbit q c k = e := by decide +kernel

theorem orbit_bijective (q : Fin 8) (c : Dev nD) : Function.Bijective (orbit q c) :=
  (Finite.injective_iff_bijective (f := orbit q c)).mp (Finite.injective_iff_surjective.mpr (orbit_surjective q c))

/-- Four rounds of adding the neighbour's value give the sum over all devices. -/
theorem tree_sum {M : Type} [AddCommMonoid M] (q : Fin 8) (c : Dev nD) (f0 f1 f2 f3 f4 : Dev nD → M)
    (h1 : ∀ c, f1 c = f0 c + f0 (nbr q 0 c)) (h2 : ∀ c, f2 c = f1 c + f1 (nbr q 1 c))
    (h3 : ∀ c, f3 c = f2 c + f2 (nbr q 2 c)) (h4 : ∀ c, f4 c = f3 c + f3 (nbr q 3 c)) :
    f4 c = ∑ e : Dev nD, f0 e := by
  rw [← (orbit_bijective q c).sum_comp f0]
  simp only [h4, h3, h2, h1]
  simp only [Fin.sum_univ_succ, Finset.univ_eq_empty, Finset.sum_empty, add_zero, add_assoc]
  rfl

theorem V_sum (X : Blocks Ideal) (c : Dev nD) (i : OIdx) : (V X 4 c i : EReal) = ∑ e : Dev nD, (X e i : EReal) :=
  tree_sum (qOf i) c (fun e => (V X 0 e i : EReal)) (fun e => (V X 1 e i : EReal)) (fun e => (V X 2 e i : EReal))
    (fun e => (V X 3 e i : EReal)) (fun e => (V X 4 e i : EReal)) (fun _ => rfl) (fun _ => rfl) (fun _ => rfl) (fun _ => rfl)

/-- The kernel's result over the reals is the sum of the devices' blocks. -/
theorem out_sum (X : Blocks Ideal) (c : Dev nD) (i : OIdx) : (OUT X c i : EReal) = ∑ e : Dev nD, (X e i : EReal) :=
  V_sum X (src c (qOf i) (vOf c i)) i

end Sum

/-! ## The reference's result -/

section Ref
open Cert.ReferenceIdeal Cert.ReferenceIdeal.Gen

/-- The sum over the sixteen blocks of rows. -/
abbrev refOut (w : FVec Ideal S32768x1024 .bf16) : FVec Ideal S2048x1024 .bf16 :=
  truncf .bf16 (Host.reduceAdd (extf .f32 (shapeCast (s := S32768x1024) S16x2048x1024 w shapeCasts_S32768x1024_S16x2048x1024) bitsLt_bf16_f32) (constant S_ .f32 0x00000000#32)
    reducesTo_S16x2048x1024_S2048x1024_d0 h_S_) bitsLt_bf16_f32

theorem tiles : Layout.Tiles ⟨2, ![2048, 1024]⟩ ⟨2, ![32768, 1024]⟩ 0 16 := by decide

/-- Its elements are the sums of the elements of the blocks. -/
theorem refOut_apply (w : FVec Ideal S32768x1024 .bf16) (i : S2048x1024.Idx) :
    (refOut w i : EReal) = ∑ e : Fin 16, (Layout.block ⟨2, ![2048, 1024]⟩ ⟨2, ![32768, 1024]⟩ 0 16 e w tiles i : EReal) := by
  show Ideal.hostReduceAdd reducesTo_S16x2048x1024_S2048x1024_d0
    (fun j => (shapeCast (s := S32768x1024) S16x2048x1024 w shapeCasts_S32768x1024_S16x2048x1024 j : EReal)) (Ideal.ofBits .f32 0x00000000#32) i = _
  rw [Ideal.hostReduceAdd_r3_a0, Ideal.ofBits_zero_f32, zero_add]
  refine Finset.sum_congr rfl fun e _ => ?_
  rw [Layout.block_apply]
  refine shapeCast_apply _ _ _ _ ?_
  rw [Shape.rowMajor_val_two, Shape.rowMajor_val_three, Layout.Tiles.idx_val, Layout.Tiles.idx_val]
  show (e.val * 2048 + (i 0).val) * 1024 + (i 1).val = (e.val * 2048 + (i 0).val) * 1024 + (i 1).val
  rfl

end Ref

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run over any float values: it ends, its argument is unchanged, its counters are zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
  (θ_run Cert.KernelIdeal.defs _ _).mono
    (fun _ h => ⟨fun c => (h.1 c (0 : Fin 2)).trans (Cert.Exchange.finalA_x m ρ c), h.2⟩)
    (Cert.Exchange.run_main m ρ)

/-- Over the extended reals. -/
theorem frame_kernelIdeal : Cert.quiescent_KernelIdeal := fun m ρ _ => frame_any m ρ

/-- The two programs, which have the same text, have the same body. -/
theorem defs₀_eq {F : FTy → Type} [FloatOps F] : Cert.Kernel.defs₀ (F := F) = Cert.KernelIdeal.defs₀ (F := F) := by
  refine congrArg Defs.onTc ?_
  funext l a
  match l, a with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) :=
  congrArg (Pipeline.defs Cert.KernelIdeal.pcfgs) defs₀_eq

/-- Over the floats' words. -/
theorem frame_kernel : Cert.quiescent_Kernel := fun m ρ _ => by
  rw [defs_eq]
  exact frame_any (F := Bits) m ρ

/-- The reference's run leaves its argument unchanged; it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- What a device's result holds is the reference's result, when the devices' arguments are its argument's blocks. -/
theorem outAt_eq (m : (ℓ : Loc Cert.KernelIdeal.nD Cert.KernelIdeal.τ Cert.KernelIdeal.sig) → Buf (Elt Ideal) ℓ)
    (ρ : Dev Cert.KernelIdeal.nD → PrngReg) (w : FVec Ideal Cert.ReferenceIdeal.S32768x1024 .bf16)
    (hw : ∀ c : Dev Cert.KernelIdeal.nD,
      m ((c.tc : Thread Cert.KernelIdeal.nD Cert.KernelIdeal.τ).loc Cert.KernelIdeal.main_arg0)
        = Layout.block ⟨2, ![2048, 1024]⟩ ⟨2, ![32768, 1024]⟩ 0 16 c w) (c : Dev Cert.KernelIdeal.nD) :
    Cert.Exchange.outAt m ρ c = Cert.Exchange.refOut w := by
  funext i
  refine (Cert.Exchange.out_sum (Cert.Exchange.XX m ρ) c i).trans (Eq.trans ?_ (Cert.Exchange.refOut_apply w i).symm)
  refine Finset.sum_congr rfl fun e _ => ?_
  exact congrFun ((Cert.Exchange.xstg_eq m ρ e).trans (hw e)) i

/-- The kernel on sixteen devices and the reference on one compute the same array over the extended reals. -/
theorem algebraic : Cert.algebraic_KernelIdeal_ReferenceIdeal := fun m ρ m' ρ' _ hw =>
  ⟨Cert.Exchange.refOut (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨(h.1 c (1 : Fin 2)).trans ((Cert.Exchange.finalA_o m ρ c).trans (outAt_eq m ρ _ hw c)),
        (h.1 c (0 : Fin 2)).trans (Cert.Exchange.finalA_x m ρ c)⟩)
      (Cert.Exchange.run_main (F := Ideal) m ρ),
    (θ_run Cert.ReferenceIdeal.defs _ _).mono (fun _ h => ⟨(h 0).1, (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
